-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![2048, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S2048x2048 : Shape := ⟨2, ![2048, 2048]⟩
abbrev S512x2048 : Shape := ⟨2, ![512, 2048]⟩
abbrev S3x512x512 : Shape := ⟨3, ![3, 512, 512]⟩
abbrev S2 : Shape := ⟨1, ![2]⟩
abbrev S3 : Shape := ⟨1, ![3]⟩
abbrev S1 : Shape := ⟨1, ![1]⟩
abbrev S_ : Shape := ⟨0, ![]⟩
abbrev S512x512 : Shape := ⟨2, ![512, 512]⟩
abbrev S1x512x512 : Shape := ⟨3, ![1, 512, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S2048x2048, .f32⟩
  | .hbm, ⟨2, _⟩ => ⟨S512x2048, .bf16⟩
  | .local _ .vmem, ⟨0, _⟩ => ⟨S2048x512, .f32⟩
  | .local _ .vmem, ⟨1, _⟩ => ⟨S2048x2048, .f32⟩
  | .local _ .vmem, ⟨2, _⟩ => ⟨S2048x2048, .bf16⟩
  | .local _ .vmem, ⟨3, _⟩ => ⟨S3x512x512, .bf16⟩
  | .local _ .vmem, ⟨4, _⟩ => ⟨S3x512x512, .bf16⟩
  | .local _ .vmem, ⟨5, _⟩ => ⟨S512x2048, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v8 : BitVec 32 := Scalar.addi v2 c1_i32_1
  let c4_i32_2 : BitVec 32 := 4#32
  let c0_i32_3 : BitVec 32 := 0#32
  let v9 : BitVec 1 := Scalar.cmpi .eq c4_i32_2 c0_i32_3
  let c1_i32_4 : BitVec 32 := 1#32
  let v10 : BitVec 32 := Scalar.select v9 c1_i32_4 c4_i32_2
  let v11 : BitVec 32 := Scalar.remsi v8 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let c1_i32_9 : BitVec 32 := 1#32
  let v19 : BitVec 32 := Scalar.muli v18 c1_i32_9
  let v20 : BitVec 32 := Scalar.addi c0_i32_10 v19
  v20.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v21 : BitVec 32 := Scalar.addi v2 c2_i32
  let c4_i32_11 : BitVec 32 := 4#32
  let c0_i32_12 : BitVec 32 := 0#32
  let v22 : BitVec 1 := Scalar.cmpi .eq c4_i32_11 c0_i32_12
  let c1_i32_13 : BitVec 32 := 1#32
  let v23 : BitVec 32 := Scalar.select v22 c1_i32_13 c4_i32_11
  let v24 : BitVec 32 := Scalar.remsi v21 v23
  let c0_i32_15 : BitVec 32 := 0#32
  let v26 : BitVec 1 := Scalar.cmpi .slt v24 c0_i32_15
  let c0_i32_16 : BitVec 32 := 0#32
  let v27 : BitVec 1 := Scalar.cmpi .slt v23 c0_i32_16
  let v28 : BitVec 1 := Scalar.xori v26 v27
  let c0_i32_14 : BitVec 32 := 0#32
  let v25 : BitVec 1 := Scalar.cmpi .ne v24 c0_i32_14
  let v29 : BitVec 1 := Scalar.andi v28 v25
  let v30 : BitVec 32 := Scalar.addi v24 v23
  let v31 : BitVec 32 := Scalar.select v29 v30 v24
  let c1_i32_18 : BitVec 32 := 1#32
  let v32 : BitVec 32 := Scalar.muli v31 c1_i32_18
  let v33 : BitVec 32 := Scalar.addi c0_i32_19 v32
  v33.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v34 : BitVec 32 := Scalar.addi v2 c3_i32
  let c4_i32_20 : BitVec 32 := 4#32
  let c0_i32_21 : BitVec 32 := 0#32
  let v35 : BitVec 1 := Scalar.cmpi .eq c4_i32_20 c0_i32_21
  let c1_i32_22 : BitVec 32 := 1#32
  let v36 : BitVec 32 := Scalar.select v35 c1_i32_22 c4_i32_20
  let v37 : BitVec 32 := Scalar.remsi v34 v36
  let c0_i32_24 : BitVec 32 := 0#32
  let v39 : BitVec 1 := Scalar.cmpi .slt v37 c0_i32_24
  let c0_i32_25 : BitVec 32 := 0#32
  let v40 : BitVec 1 := Scalar.cmpi .slt v36 c0_i32_25
  let v41 : BitVec 1 := Scalar.xori v39 v40
  let c0_i32_23 : BitVec 32 := 0#32
  let v38 : BitVec 1 := Scalar.cmpi .ne v37 c0_i32_23
  let v42 : BitVec 1 := Scalar.andi v41 v38
  let v43 : BitVec 32 := Scalar.addi v37 v36
  let v44 : BitVec 32 := Scalar.select v42 v43 v37
  let c1_i32_27 : BitVec 32 := 1#32
  let v45 : BitVec 32 := Scalar.muli v44 c1_i32_27
  let v46 : BitVec 32 := Scalar.addi c0_i32_28 v45
  v46.toNat
def k0_off1 (d0 : Dev nD) (c1_i32_31 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v49 : BitVec 32 := Scalar.addi v2 c1_i32_31
  let c4_i32_32 : BitVec 32 := 4#32
  let c0_i32_33 : BitVec 32 := 0#32
  let v50 : BitVec 1 := Scalar.cmpi .eq c4_i32_32 c0_i32_33
  let c1_i32_34 : BitVec 32 := 1#32
  let v51 : BitVec 32 := Scalar.select v50 c1_i32_34 c4_i32_32
  let v52 : BitVec 32 := Scalar.remsi v49 v51
  let c0_i32_36 : BitVec 32 := 0#32
  let v54 : BitVec 1 := Scalar.cmpi .slt v52 c0_i32_36
  let c0_i32_37 : BitVec 32 := 0#32
  let v55 : BitVec 1 := Scalar.cmpi .slt v51 c0_i32_37
  let v56 : BitVec 1 := Scalar.xori v54 v55
  let c0_i32_35 : BitVec 32 := 0#32
  let v53 : BitVec 1 := Scalar.cmpi .ne v52 c0_i32_35
  let v57 : BitVec 1 := Scalar.andi v56 v53
  let v58 : BitVec 32 := Scalar.addi v52 v51
  let v59 : BitVec 32 := Scalar.select v57 v58 v52
  let c512_i32 : BitVec 32 := 512#32
  let v60 : BitVec 32 := Scalar.muli v59 c512_i32
  let v61 : Index := Scalar.indexCast v60
  let c0 : Index := 0#32
  ![v61.toNat, 0]
def k0_dev4 (d0 : Dev nD) : Nat :=
  let c0_i32_53 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_41 : BitVec 32 := 1#32
  let v67 : BitVec 32 := Scalar.addi v2 c1_i32_41
  let c4_i32_42 : BitVec 32 := 4#32
  let c0_i32_43 : BitVec 32 := 0#32
  let v68 : BitVec 1 := Scalar.cmpi .eq c4_i32_42 c0_i32_43
  let c1_i32_44 : BitVec 32 := 1#32
  let v69 : BitVec 32 := Scalar.select v68 c1_i32_44 c4_i32_42
  let v70 : BitVec 32 := Scalar.remsi v67 v69
  let c0_i32_46 : BitVec 32 := 0#32
  let v72 : BitVec 1 := Scalar.cmpi .slt v70 c0_i32_46
  let c0_i32_47 : BitVec 32 := 0#32
  let v73 : BitVec 1 := Scalar.cmpi .slt v69 c0_i32_47
  let v74 : BitVec 1 := Scalar.xori v72 v73
  let c0_i32_45 : BitVec 32 := 0#32
  let v71 : BitVec 1 := Scalar.cmpi .ne v70 c0_i32_45
  let v75 : BitVec 1 := Scalar.andi v74 v71
  let v76 : BitVec 32 := Scalar.addi v70 v69
  let v77 : BitVec 32 := Scalar.select v75 v76 v70
  let c1_i32_52 : BitVec 32 := 1#32
  let v78 : BitVec 32 := Scalar.muli v77 c1_i32_52
  let v79 : BitVec 32 := Scalar.addi c0_i32_53 v78
  v79.toNat
def k0_dev5 (d0 : Dev nD) : Nat :=
  let c0_i32_81 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_69 : BitVec 32 := 3#32
  let v106 : BitVec 32 := Scalar.addi v2 c3_i32_69
  let c4_i32_70 : BitVec 32 := 4#32
  let c0_i32_71 : BitVec 32 := 0#32
  let v107 : BitVec 1 := Scalar.cmpi .eq c4_i32_70 c0_i32_71
  let c1_i32_72 : BitVec 32 := 1#32
  let v108 : BitVec 32 := Scalar.select v107 c1_i32_72 c4_i32_70
  let v109 : BitVec 32 := Scalar.remsi v106 v108
  let c0_i32_74 : BitVec 32 := 0#32
  let v111 : BitVec 1 := Scalar.cmpi .slt v109 c0_i32_74
  let c0_i32_75 : BitVec 32 := 0#32
  let v112 : BitVec 1 := Scalar.cmpi .slt v108 c0_i32_75
  let v113 : BitVec 1 := Scalar.xori v111 v112
  let c0_i32_73 : BitVec 32 := 0#32
  let v110 : BitVec 1 := Scalar.cmpi .ne v109 c0_i32_73
  let v114 : BitVec 1 := Scalar.andi v113 v110
  let v115 : BitVec 32 := Scalar.addi v109 v108
  let v116 : BitVec 32 := Scalar.select v114 v115 v109
  let c1_i32_80 : BitVec 32 := 1#32
  let v117 : BitVec 32 := Scalar.muli v116 c1_i32_80
  let v118 : BitVec 32 := Scalar.addi c0_i32_81 v117
  v118.toNat
def k0_dev6 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_115 : BitVec 32 := 2#32
  let v157 : BitVec 32 := Scalar.addi v2 c2_i32_115
  let c4_i32_116 : BitVec 32 := 4#32
  let c0_i32_117 : BitVec 32 := 0#32
  let v158 : BitVec 1 := Scalar.cmpi .eq c4_i32_116 c0_i32_117
  let c1_i32_118 : BitVec 32 := 1#32
  let v159 : BitVec 32 := Scalar.select v158 c1_i32_118 c4_i32_116
  let v160 : BitVec 32 := Scalar.remsi v157 v159
  let c0_i32_120 : BitVec 32 := 0#32
  let v162 : BitVec 1 := Scalar.cmpi .slt v160 c0_i32_120
  let c0_i32_121 : BitVec 32 := 0#32
  let v163 : BitVec 1 := Scalar.cmpi .slt v159 c0_i32_121
  let v164 : BitVec 1 := Scalar.xori v162 v163
  let c0_i32_119 : BitVec 32 := 0#32
  let v161 : BitVec 1 := Scalar.cmpi .ne v160 c0_i32_119
  let v165 : BitVec 1 := Scalar.andi v164 v161
  let v166 : BitVec 32 := Scalar.addi v160 v159
  let v167 : BitVec 32 := Scalar.select v165 v166 v160
  let c1_i32_126 : BitVec 32 := 1#32
  let v168 : BitVec 32 := Scalar.muli v167 c1_i32_126
  let v169 : BitVec 32 := Scalar.addi c0_i32_127 v168
  v169.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_137 : BitVec 32 := 512#32
  let v185 : BitVec 32 := Scalar.muli v2 c512_i32_137
  let v186 : Index := Scalar.indexCast v185
  let c0_138 : Index := 0#32
  ![v186.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_139 : BitVec 32 := 512#32
  let v189 : BitVec 32 := Scalar.muli v2 c512_i32_139
  let v190 : Index := Scalar.indexCast v189
  let c0_140 : Index := 0#32
  ![v190.toNat, 0]
def k0_off4 (d0 : Dev nD) (c1_i32_141 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v193 : BitVec 32 := Scalar.subi v2 c1_i32_141
  let c4_i32_142 : BitVec 32 := 4#32
  let c0_i32_143 : BitVec 32 := 0#32
  let v194 : BitVec 1 := Scalar.cmpi .eq c4_i32_142 c0_i32_143
  let c1_i32_144 : BitVec 32 := 1#32
  let v195 : BitVec 32 := Scalar.select v194 c1_i32_144 c4_i32_142
  let v196 : BitVec 32 := Scalar.remsi v193 v195
  let c0_i32_146 : BitVec 32 := 0#32
  let v198 : BitVec 1 := Scalar.cmpi .slt v196 c0_i32_146
  let c0_i32_147 : BitVec 32 := 0#32
  let v199 : BitVec 1 := Scalar.cmpi .slt v195 c0_i32_147
  let v200 : BitVec 1 := Scalar.xori v198 v199
  let c0_i32_145 : BitVec 32 := 0#32
  let v197 : BitVec 1 := Scalar.cmpi .ne v196 c0_i32_145
  let v201 : BitVec 1 := Scalar.andi v200 v197
  let v202 : BitVec 32 := Scalar.addi v196 v195
  let v203 : BitVec 32 := Scalar.select v201 v202 v196
  let c512_i32_161 : BitVec 32 := 512#32
  let v214 : BitVec 32 := Scalar.muli v203 c512_i32_161
  let v215 : Index := Scalar.indexCast v214
  let c0_162 : Index := 0#32
  ![v215.toNat, 0]
-- ==== ReferenceIdeal.lean ====
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.IdealProtocol.lean ====
/-
# The exchange of the row blocks: devices, buffers, semaphores, and the schedule they follow

Four devices each hold a block of columns of `x` and all of `w`. Device `c` cuts its columns into four
blocks of rows, keeps the block of its own rows, and sends each of the other three to the device that owns those
rows. The transfer of offset `j + 1` uses SLOT `j` of the send buffer on the sender, slot `j` of the receive
buffer on the device `j + 1` places further, and the `j`-th element of the two semaphore arrays.

The semaphores, all of them used for one round:

* the ready semaphore of `c` (the runtime's barrier semaphore): three signals of one unit. The signal named `j`
  comes from the device slot `j` of `c` is addressed to, and hands over slot `j` of that device's receive buffer;
* the `j`-th departure semaphore of `c`: the credit of one slot, when slot `j` of the send buffer has been read,
  handing that slot back;
* the `j`-th arrival semaphore of `c`: the credit of one slot, paid by the device `j + 1` places before, handing
  over slot `j` of the receive buffer holding the block that device cut for `c`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

set_option maxRecDepth 16384

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the launch's copy of the rounds, the exchange's, and the counters of the local copies -/

abbrev UX : Type := URounds (GSem nD τ sig) (Fin 3)
abbrev UU : Type := UR sig nD τ × (UX × Counters)

local notation "𝕄" => MT nD τ sig Unit (Elt F) ℕ UU ℕ

abbrev EP : Emb (UR sig nD τ) (MT nD τ sig Unit (Elt F) ℕ UU ℕ) := embL
/-- The exchange's rounds are the left part of the right component. -/
def EX : Emb UX (MT nD τ sig Unit (Elt F) ℕ UU ℕ) :=
  (Emb.inl : Emb UX (UX × Counters)).trans (embR : Emb (UX × Counters) (MT nD τ sig Unit (Elt F) ℕ UU ℕ))
instance EX_landsIn : (EX : Emb UX 𝕄).LandsIn (upEmb : UEmb _ 𝕄) := by unfold EX; infer_instance

variable (m : (ℓ : Loc nD τ sig) → Buf (Elt F) ℓ) (ρ : Dev nD → PrngReg)

/-- The machine at launch: any memory, every counter at zero, any generator registers. -/
def s₀ : MemSt nD τ sig (Elt F) := ⟨m, fun _ => 0, ρ⟩

abbrev 𝒱₀ : Variants := Variants.none

/-- The run of a program on device `c`'s core, ending in `Q`. -/
abbrev run {α : Type} (c : Dev nD) (P : Prog (TpuEff nD τ sig (Elt F) Λ₀ .tc) α) (Q : α → sProp 𝕄) : sProp 𝕄 :=
  wp frame (wpE (defs₀ (F := F)) 𝒱₀ (c : Thread nD τ) none) Set.univ P Q

/-! ## Who sends to whom -/

set_option backward.proofsInPublic true in
/-- The device slot `j` of `c` goes to. -/
def dest (j : Fin 3) (c : Dev nD) : Dev nD := ⟨(c.val + (j.val + 1)) % 4, Nat.mod_lt _ (by decide)⟩
set_option backward.proofsInPublic true in
/-- The device slot `j` of `c` comes from. -/
def orig (j : Fin 3) (c : Dev nD) : Dev nD := ⟨(c.val + (3 - j.val)) % 4, Nat.mod_lt _ (by decide)⟩

theorem orig_dest (j : Fin 3) (c : Dev nD) : orig j (dest j c) = c := by revert j c; decide
theorem dest_orig (j : Fin 3) (c : Dev nD) : dest j (orig j c) = c := by revert j c; decide

/-- Slot `j`'s shift of the devices. -/
def shift (j : Fin 3) : Dev nD ≃ Dev nD := ⟨dest j, orig j, orig_dest j, dest_orig j⟩

theorem sig1_eq (c : Dev nD) : (⟨k0_dev1 c, k0_dev1_lt c⟩ : Dev nD) = orig 2 c := by revert c; decide +kernel
theorem sig2_eq (c : Dev nD) : (⟨k0_dev2 c, k0_dev2_lt c⟩ : Dev nD) = orig 1 c := by revert c; decide +kernel
theorem sig3_eq (c : Dev nD) : (⟨k0_dev3 c, k0_dev3_lt c⟩ : Dev nD) = orig 0 c := by revert c; decide +kernel
theorem dst0_eq (c : Dev nD) : (⟨k0_dev4 c, k0_dev4_lt c⟩ : Dev nD) = dest 0 c := by revert c; decide +kernel
theorem dst2_eq (c : Dev nD) : (⟨k0_dev5 c, k0_dev5_lt c⟩ : Dev nD) = dest 2 c := by revert c; decide +kernel
theorem dst1_eq (c : Dev nD) : (⟨k0_dev6 c, k0_dev6_lt c⟩ : Dev nD) = dest 1 c := by revert c; decide +kernel

/-- The rows cut for slot `j` are those of the device it goes to. -/
theorem cut_off (j : Fin 3) (c : Dev nD) : k0_off1 c (BitVec.ofNat 32 (1 + j.val)) = ![512 * (dest j c).val, 0] := by
  revert j c; decide +kernel
/-- The rows of `w` that meet slot `j`'s block are those of the device it came from. -/
theorem meet_off (j : Fin 3) (c : Dev nD) : k0_off4 c (BitVec.ofNat 32 (1 + j.val)) = ![512 * (orig j c).val, 0] := by
  revert j c; decide +kernel

/-! ## The buffers and their parts -/

abbrev xH : Memref sig .tc .hbm S2048x512 .f32 := Memref.whole main_arg0
abbrev wH : Memref sig .tc .hbm S2048x2048 .f32 := Memref.whole main_arg1
abbrev oH : Memref sig .tc .hbm S512x2048 .bf16 := Memref.whole main_v1
abbrev xV : Memref sig .tc .vmem S2048x512 .f32 := Memref.whole cc0_scratch0
abbrev wV : Memref sig .tc .vmem S2048x2048 .f32 := Memref.whole cc0_scratch1
abbrev wB : Memref sig .tc .vmem S2048x2048 .bf16 := Memref.whole cc0_scratch2
abbrev rB : Memref sig .tc .vmem S3x512x512 .bf16 := Memref.whole cc0_scratch3
abbrev sB : Memref sig .tc .vmem S3x512x512 .bf16 := Memref.whole cc0_scratch4
abbrev oV : Memref sig .tc .vmem S512x2048 .bf16 := Memref.whole cc0_scratch5

theorem slot_inb (j : Fin 3) : ∀ a, (![j.val, 0, 0] : Fin 3 → ℕ) a + S1x512x512.size a ≤ S3x512x512.size a := by
  revert j; decide
theorem sem_inb (j : Fin 3) : ∀ a, (![j.val] : Fin 1 → ℕ) a + S1.size a ≤ S3.size a := by revert j; decide

abbrev slotRect (j : Fin 3) : Rect S3x512x512 := Rect.unit (s := S3x512x512) ![j.val, 0, 0] S1x512x512.size (slot_inb j)
/-- Slot `j` of a buffer of three, as a matrix. -/
abbrev slot (b : Memref sig .tc .vmem S3x512x512 .bf16) (j : Fin 3) : Memref sig .tc .vmem S512x512 .bf16 :=
  (b.slice (slotRect j) (fun _ => rfl)).squeeze S512x512 squeezes_S1x512x512_S512x512

abbrev readyS : Sem sig := (SemArray.scalar (sig.barrier 0 rfl) : Sems sig S_).sem
abbrev leftS (j : Fin 3) : DmaSem sig :=
  ((cc0_scratch7.slice (Rect.unit (s := S3) ![j.val] S1.size (sem_inb j))).squeeze S_ squeezes_S1_S_ : DmaSems sig S_).sem
abbrev cameS (j : Fin 3) : DmaSem sig :=
  ((cc0_scratch8.slice (Rect.unit (s := S3) ![j.val] S1.size (sem_inb j))).squeeze S_ squeezes_S1_S_ : DmaSems sig S_).sem
/-- The semaphores of the copies inside the device. -/
abbrev ownS0 : DmaSem sig :=
  ((cc0_scratch6.slice (Rect.unit (s := S2) ![0] S1.size inb_S2_S1_0)).squeeze S_ squeezes_S1_S_ : DmaSems sig S_).sem
abbrev ownS1 : DmaSem sig :=
  ((cc0_scratch6.slice (Rect.unit (s := S2) ![1] S1.size inb_S2_S1_1)).squeeze S_ squeezes_S1_S_ : DmaSems sig S_).sem

abbrev readyCell (c : Dev nD) : GSem nD τ sig := ((c : Thread nD τ), .reg readyS)
abbrev leftCell (j : Fin 3) (c : Dev nD) : GSem nD τ sig := ((c : Thread nD τ), .dma (leftS j))
abbrev cameCell (j : Fin 3) (c : Dev nD) : GSem nD τ sig := ((c : Thread nD τ), .dma (cameS j))

/-- The credit of one slot. -/
abbrev N : ℕ := (slot rB 0).view.dmaCredit
theorem N_pos : 0 < N := View.dmaCredit_pos _ (by decide)
theorem credit_r (j : Fin 3) : (slot rB j).view.dmaCredit = N := by fin_cases j <;> rfl
theorem credit_s (j : Fin 3) : (slot sB j).view.dmaCredit = N := by fin_cases j <;> rfl

/-! ## What travels -/

abbrev xOf (c : Dev nD) : Buf (Elt F) (xH.view.loc (c : Thread nD τ)) := m ((c : Thread nD τ).loc main_arg0)
abbrev wOf (c : Dev nD) : Buf (Elt F) (wH.view.loc (c : Thread nD τ)) := m ((c : Thread nD τ).loc main_arg1)

theorem rowsX_inb (p : Dev nD) : ∀ a, (![512 * p.val, 0] : Fin 2 → ℕ) a + S512x512.size a ≤ S2048x512.size a := by
  revert p; decide
theorem rowsW_inb (p : Dev nD) : ∀ a, (![512 * p.val, 0] : Fin 2 → ℕ) a + S512x2048.size a ≤ S2048x2048.size a := by
  revert p; decide
/-- The rows of device `p` in a block of columns of `x`; in `w`. -/
abbrev rowsX (p : Dev nD) : Rect S2048x512 := Rect.unit (s := S2048x512) ![512 * p.val, 0] S512x512.size (rowsX_inb p)
abbrev rowsW (p : Dev nD) : Rect S2048x2048 := Rect.unit (s := S2048x2048) ![512 * p.val, 0] S512x2048.size (rowsW_inb p)

/-- The block of `p`'s rows of device `c`'s columns of `x`, as read. -/
def xRows (c p : Dev nD) : Vec F S512x512 .f32 := fun i => xOf m c ((rowsX p).emb i)
/-- The same in the narrow format: what `c` multiplies with itself (`p = c`) or sends to `p`. -/
def cut (c p : Dev nD) : FVec F S512x512 .bf16 := k0_pay1 (xRows m c p)

/-! ## The schedule -/

/-- Slot `j` of `b` on device `c`, holding anything. -/
def free (b : Memref sig .tc .vmem S3x512x512 .bf16) (j : Fin 3) (c : Dev nD) : sProp 𝕄 :=
  iprop(∃ X, owns (c : Thread nD τ) (slot b j) fullShare X)
/-- What the ready signal named `j` of device `c` hands over: slot `j` of the receive buffer of the device slot `j` goes to. -/
def readyPay (c : Dev nD) (j : Fin 3) : sProp 𝕄 := free rB j (dest j c)
/-- What the arrival at slot `j` of device `c` hands over. -/
def camePay (c : Dev nD) (j : Fin 3) : sProp 𝕄 := owns (c : Thread nD τ) (slot rB j) fullShare (cut m (orig j c) c)

/-- A semaphore's part in the exchange: `some none` the ready semaphore, `some (some (false, j))` the `j`-th departure
    semaphore, `some (some (true, j))` the `j`-th arrival semaphore, `none` any other. -/
abbrev Part : Type := Option (Bool × Fin 3)
abbrev semOf : Part → SemLoc sig
  | none => .reg readyS | some (false, j) => .dma (leftS j) | some (true, j) => .dma (cameS j)
abbrev parts : List Part :=
  [none, some (false, 0), some (false, 1), some (false, 2), some (true, 0), some (true, 1), some (true, 2)]
def partOf (sm : SemLoc sig) : Option Part := parts.find? fun p => semOf p = sm
theorem partOf_sem (p : Part) : partOf (semOf p) = some p := by revert p; decide
theorem partOf_ready : partOf (.reg readyS) = some none := partOf_sem none
theorem partOf_left (j : Fin 3) : partOf (.dma (leftS j)) = some (some (false, j)) := partOf_sem (some (false, j))
theorem partOf_came (j : Fin 3) : partOf (.dma (cameS j)) = some (some (true, j)) := partOf_sem (some (true, j))

theorem semOf_injective : Function.Injective semOf := fun p q h => by
  have := congrArg partOf h
  rwa [partOf_sem, partOf_sem, Option.some.injEq] at this

/-- One round for every semaphore of the exchange. -/
def Rd : Rounds.Schedule (GSem nD τ sig) (Fin 3) 𝕄 where
  duties g r := if r = 0 ∧ g.1.2 = .tc then
      (match partOf g.2 with | some none => Finset.univ | some (some _) => {0} | none => ∅) else ∅
  unitless _ := False
  amount g _ _ := match partOf g.2 with | some none => 1 | _ => N
  payload g _ d := match partOf g.2 with
    | some none => readyPay g.1.1 d
    | some (some (false, j)) => free sB j g.1.1
    | some (some (true, j)) => camePay m g.1.1 j
    | none => iprop(emp)
  amount_pos g _ _ _ := by
    split
    · exact Nat.one_pos
    · exact N_pos

omit [FloatOps F] in
instance free_storable (b : Memref sig .tc .vmem S3x512x512 .bf16) (j : Fin 3) (c : Dev nD) :
    BI.Storable (upEmb : UEmb _ 𝕄) (free (F := F) b j c) := by unfold free; infer_instance

instance Rd_payload_storable (g : GSem nD τ sig) (r : ℕ) (d : Fin 3) : BI.Storable (upEmb : UEmb _ 𝕄) ((Rd (F := F) m).payload g r d) := by
  show BI.Storable upEmb (match partOf g.2 with
    | some none => readyPay g.1.1 d
    | some (some (false, j)) => free sB j g.1.1
    | some (some (true, j)) => camePay m g.1.1 j
    | none => iprop(emp))
  unfold readyPay camePay
  (repeat' split) <;> infer_instance

section Tables

variable (c : Dev nD) (j : Fin 3)

theorem duties_ready : (Rd (F := F) m).duties (readyCell c) 0 = Finset.univ := by
  dsimp only [Rd]; rw [partOf_ready, if_pos ⟨rfl, rfl⟩]
theorem duties_left : (Rd (F := F) m).duties (leftCell j c) 0 = {0} := by
  dsimp only [Rd]; rw [partOf_left, if_pos ⟨rfl, rfl⟩]
theorem duties_came : (Rd (F := F) m).duties (cameCell j c) 0 = {0} := by
  dsimp only [Rd]; rw [partOf_came, if_pos ⟨rfl, rfl⟩]
theorem duties_past (g : GSem nD τ sig) : ∀ r, 1 ≤ r → (Rd (F := F) m).duties g r = ∅ :=
  fun r hr => by dsimp only [Rd]; exact if_neg fun h => by omega

theorem amount_ready (d : Fin 3) : (Rd (F := F) m).amount (readyCell c) 0 d = 1 := by dsimp only [Rd]; rw [partOf_ready]
theorem amount_left (d : Fin 3) : (Rd (F := F) m).amount (leftCell j c) 0 d = N := by dsimp only [Rd]; rw [partOf_left]
theorem amount_came (d : Fin 3) : (Rd (F := F) m).amount (cameCell j c) 0 d = N := by dsimp only [Rd]; rw [partOf_came]

theorem expect_ready : (Rd (F := F) m).expect (readyCell c) 0 = 3 := by
  unfold Schedule.expect Schedule.amountOf
  rw [duties_ready, Finset.sum_congr rfl fun d _ => amount_ready m c d]; rfl
theorem expect_left : (Rd (F := F) m).expect (leftCell j c) 0 = N := by
  unfold Schedule.expect Schedule.amountOf; rw [duties_left, Finset.sum_singleton, amount_left]
theorem expect_came : (Rd (F := F) m).expect (cameCell j c) 0 = N := by
  unfold Schedule.expect Schedule.amountOf; rw [duties_came, Finset.sum_singleton, amount_came]

theorem payload_ready (d : Fin 3) : (Rd (F := F) m).payload (readyCell c) 0 d = readyPay c d := by
  dsimp only [Rd]; rw [partOf_ready]
theorem payload_left (d : Fin 3) : (Rd (F := F) m).payload (leftCell j c) 0 d = free sB j c := by
  dsimp only [Rd]; rw [partOf_left]
theorem payload_came (d : Fin 3) : (Rd (F := F) m).payload (cameCell j c) 0 d = camePay m c j := by
  dsimp only [Rd]; rw [partOf_came]

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

theorem rest_ready : bigSep ((Rd (F := F) m).duties (readyCell c) 0 \ ∅) (fun d => (Rd (F := F) m).payload (readyCell c) 0 d)
    = iprop(readyPay c 0 ∗ readyPay c 1 ∗ readyPay c 2) := by
  rw [Finset.sdiff_empty, duties_ready, bigSep_three, payload_ready, payload_ready, payload_ready]
theorem rest_left : bigSep ((Rd (F := F) m).duties (leftCell j c) 0 \ ∅) (fun d => (Rd (F := F) m).payload (leftCell j c) 0 d) = free sB j c := by
  rw [Finset.sdiff_empty, duties_left, bigSep_singleton, payload_left]
theorem rest_came : bigSep ((Rd (F := F) m).duties (cameCell j c) 0 \ ∅) (fun d => (Rd (F := F) m).payload (cameCell j c) 0 d) = camePay m c j := by
  rw [Finset.sdiff_empty, duties_came, bigSep_singleton, payload_came]

end Tables

/-! ## What a device owes, and the order of the waits -/

/-- The credit device `c` owes the arrival semaphore its slot `j` ends on. -/
abbrev debt (j : Fin 3) (c : Dev nD) : CellTallies nD τ sig Unit := tallyAt (cameCell j (dest j c)) () N
/-- The unit it owes the ready semaphore whose signal `j` it gives. -/
abbrev unit1 (j : Fin 3) (c : Dev nD) : CellTallies nD τ sig Unit := tallyAt (readyCell (orig j c)) () 1

/-- After the three signals: the three transfers, slot 0 first, then slot 2, then slot 1. -/
def owed3 (c : Dev nD) : CellTallies nD τ sig Unit := debt 1 c + debt 2 c + debt 0 c
/-- At launch: the three signals before them. -/
def owed0 (c : Dev nD) : CellTallies nD τ sig Unit := owed3 c + unit1 0 c + unit1 1 c + unit1 2 c

def L (g : GSem nD τ sig) : Finset Unit := if g.1.2 = .tc then {()} else ∅
/-- An arrival semaphore stands above every other. -/
def lv (g : GSem nD τ sig) (_ : Unit) : ℕ := if ∃ j, g.2 = .dma (cameS j) then 1 else 0

theorem L_of_ne (g : GSem nD τ sig) (h : g.1.2 ≠ .tc) : L g = ∅ := if_neg h
theorem L_tc (c : Dev nD) (sm : SemLoc sig) : L ((c : Thread nD τ), sm) = {()} := if_pos rfl

/-- Only arrival semaphores are owed anything. -/
def ArrivalsOnly (O : CellTallies nD τ sig Unit) : Prop := ∀ g u, 0 < O g u → ∃ j d, g = cameCell j d

theorem ArrivalsOnly.zero : ArrivalsOnly 0 := fun g u h => absurd h (Nat.lt_irrefl 0)
theorem ArrivalsOnly.debt (j : Fin 3) (c : Dev nD) : ArrivalsOnly (debt j c) := fun g u h => by
  rw [tallyAt_apply] at h
  by_cases hg : g = cameCell j (dest j c) ∧ u = ()
  · exact ⟨j, _, hg.1⟩
  · rw [if_neg hg] at h; exact absurd h (Nat.lt_irrefl 0)
theorem ArrivalsOnly.add {O O' : CellTallies nD τ sig Unit} (h : ArrivalsOnly O) (h' : ArrivalsOnly O') : ArrivalsOnly (O + O') := fun g u hp => by
  rw [Pi.add_apply, Finsupp.add_apply] at hp
  rcases Nat.eq_zero_or_pos (O g u) with h0 | h0
  · exact h' g u (by omega)
  · exact h g u h0
theorem arrivals_owed3 (c : Dev nD) : ArrivalsOnly (owed3 c) := ((ArrivalsOnly.debt 1 c).add (ArrivalsOnly.debt 2 c)).add (ArrivalsOnly.debt 0 c)

omit [FloatOps F] in
/-- A device that owes arrivals only may wait on any semaphore that is no arrival semaphore. -/
theorem mayWait (c : Dev nD) (sm : SemLoc sig) (hsm : ∀ j, sm ≠ .dma (cameS j)) (O : CellTallies nD τ sig Unit) (hO : ArrivalsOnly O) :
    (levAts L lv : sProp 𝕄) ⊢ MayWait (c : Thread nD τ) sm () O :=
  MayOwe.of_cut (L := L) (lev := lv) 0 (fun p hp => by rw [Finset.mem_singleton.mp hp, L_tc]; exact Finset.mem_singleton_self _)
    (fun g u hg => by obtain ⟨j, d, rfl⟩ := hO g u hg; exact Finset.mem_singleton_self _)
    (fun p hp => by rw [Finset.mem_singleton.mp hp]; dsimp only [lv]; rw [if_neg fun ⟨j, h⟩ => hsm j h])
    (fun g u hg => by obtain ⟨j, d, rfl⟩ := hO g u hg; dsimp only [lv]; rw [if_pos ⟨j, rfl⟩]; decide)

end Cert.KernelIdeal.Exchange

end
-- ==== Proof.IdealSteps.lean ====
/-
# One step of the exchange at a time

Each effect a device's kernel performs on a semaphore of the exchange, as a rule over the rest of the program: a
ready signal, the wait for the three of them, the transfer of a slot, the wait for its departure and for an arrival;
then the loads and stores through the slots, the local copies, and the reads of the rows. Each is stated once, for a
symbolic device and a symbolic slot.
-/
module

public import proofs.«01_k».proof.Proof.IdealProtocol

@[expose] public section

set_option maxRecDepth 16384

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The records every device shares -/

/-- A device and a part name a semaphore of the exchange. -/
abbrev cell (cp : Dev nD × Part) : GSem nD τ sig := ((cp.1 : Thread nD τ), semOf cp.2)

/-- Every semaphore of the exchange follows the schedule (under the names `K`) and has reached its round. -/
def records (K : Dev nD × Part → ℕ) : sProp 𝕄 :=
  iprop((bigSep Finset.univ fun cp : Dev nD × Part => cellInv EX (Rd m) (K cp) (cell cp))
    ∗ bigSep Finset.univ fun cp : Dev nD × Part => reached EX (cell cp) 0)

instance records_persistent (K : Dev nD × Part → ℕ) : BI.Persistent (records m K) := by unfold records; infer_instance

variable (K : Dev nD × Part → ℕ)

theorem inv_at (cp : Dev nD × Part) : records m K ⊢ cellInv EX (Rd m) (K cp) (cell cp) := by
  unfold records
  exact (show iprop(_ ∗ _) ⊢ _ from sep_elim_left).trans (bigSep_elim (Finset.mem_univ cp))
theorem reached_at (cp : Dev nD × Part) : records m K ⊢ reached EX (cell cp) 0 := by
  unfold records
  exact (show iprop(_ ∗ _) ⊢ _ from sep_elim_right).trans (bigSep_elim (Finset.mem_univ cp))

variable (c : Dev nD)

/-! ## The ready signals -/

/-- Device `c` signals the device its slot-`j` block comes from, handing it slot `j` of its receive buffer. -/
theorem step_signal {α : Type} {Q : α → sProp 𝕄} (j : Fin 3) (n : Dev nD) (hn : n = orig j c) (O : CellTallies nD τ sig Unit) (W : Waits sig Unit)
    {k : PUnit → Prog (TpuEff nD τ sig (Elt F) Λ₀ .tc) α} :
    iprop(records m K ∗ owes (c : Thread nD τ) (O + unit1 j c) W ∗ dutyTok EX (readyCell (orig j c)) 0 j ∗ free rB j c)
      ⊢ iprop((owes (c : Thread nD τ) O W -∗ run c (k ⟨⟩) Q)
          -∗ run c (.op (.semSignal (Dev.tc n : Thread nD τ) readyS 1) k) Q) := by
  subst hn
  iintro ⟨#HR, HO, Ht, Hf⟩
  iapply (Rounds.wp_signal 𝒱₀ EX (Rd m) (c : Thread nD τ) none (dst := (orig j c : Thread nD τ)) (κ := K (orig j c, none))
      (d := j) (by rw [duties_ready]; exact Finset.mem_univ _) (amount_ready m (orig j c) j) () O rfl)
  isplitr; · iapply (inv_at m K (orig j c, none)); iexact HR
  isplitl [HO]; · iexact HO
  isplitl [Ht]; · iexact Ht
  isplitl [Hf]
  · rw [payload_ready]; unfold readyPay; rw [dest_orig]; iexact Hf
  iapply (reached_at m K (orig j c, none)); iexact HR

/-- The wait for the three signals: the slots the three transfers land in, and the ready semaphore done with, at zero. -/
theorem step_ready {α : Type} {Q : α → sProp 𝕄} (O : CellTallies nD τ sig Unit) (hO : ArrivalsOnly O) (W : Waits sig Unit)
    {k : PUnit → Prog (TpuEff nD τ sig (Elt F) Λ₀ .tc) α} :
    iprop(records m K ∗ levAts L lv ∗ cred (tallyAt (readyCell c) () 3) ∗ owes (c : Thread nD τ) O W ∗ atPos EX (readyCell c) 0 ∅ 0)
      ⊢ iprop((owes (c : Thread nD τ) O (insert (SemLoc.reg readyS, ()) W) ∗ semVal (readyCell c) 0
            ∗ free rB 0 (dest 0 c) ∗ free rB 1 (dest 1 c) ∗ free rB 2 (dest 2 c) -∗ run c (k ⟨⟩) Q)
          -∗ run c (.op (.semWait readyS 3) k) Q) := by
  iintro ⟨#HR, #Hl, Hc, HO, Hat⟩ Hk
  iapply (Rounds.wp_wait_rest_token 𝒱₀ EX (Rd m) (c : Thread nD τ) none (κ := K (c, none))
      (wpE_semWait_eq 𝒱₀ (c : Thread nD τ) none Set.univ) (Set.mem_univ _) () (O := O) (W := W) (R := 0) (m := 0) (T := ∅)
      (by rw [expect_ready])) $$ [Hc HO Hat]
  · isplitr; · iapply (inv_at m K (c, none)); iexact HR
    isplitl [Hc]; · iexact Hc
    isplitl [HO]; · iexact HO
    isplitr; · iapply (mayWait c _ (fun j h => by cases h) O hO); iexact Hl
    iexact Hat
  iintro ⟨HO, Hat, -, Hp⟩
  ihave Hp := (Entails.of_eq (rest_ready m c)) $$ Hp
  unfold readyPay
  imod (Rounds.cell_close EX (Rd m) (Set.mem_univ (K (c, none))) (fun h => h) (R := 0 + 1) (duties_past m (readyCell c))) $$ [Hat] with Hz
  · isplitr; · iapply (inv_at m K (c, none)); iexact HR
    iexact Hat
  iapply Hk
  isplitl [HO]; · iexact HO
  isplitl [Hz]; · iexact Hz
  iexact Hp

/-! ## The transfers -/

/-- Slot `j` leaves for the device it goes to, at the block cut for that device. -/
theorem step_send {α : Type} {Q : α → sProp 𝕄} (j : Fin 3) (n : Dev nD) (hn : n = dest j c) (O : CellTallies nD τ sig Unit) (W : Waits sig Unit)
    {hsc : (slot rB j : Memref sig (Dev.tc n : Thread nD τ).2.kind .vmem S512x512 .bf16).view.ref.isScScratch = false}
    {hsrc : (slot sB j).view.WordExact} {hdst : (slot rB j).view.WordExact}
    {hsem : DmaTarget.Typed .vmem (.dma (cameS j))
      (.remote (Dev.tc n : Thread nD τ) (slot rB j : Memref sig (Dev.tc n : Thread nD τ).2.kind .vmem S512x512 .bf16) (.dma (leftS j)) hsc)}
    {k : PUnit → Prog (TpuEff nD τ sig (Elt F) Λ₀ .tc) α} :
    iprop(records m K ∗ owns (c : Thread nD τ) (slot sB j) fullShare (cut m c (dest j c)) ∗ free rB j (dest j c)
        ∗ owes (c : Thread nD τ) (O + debt j c) W ∗ dutyTok EX (leftCell j c) 0 0 ∗ dutyTok EX (cameCell j (dest j c)) 0 0)
      ⊢ iprop((cred (tallyAt (leftCell j c) () N) ∗ owes (c : Thread nD τ) O W -∗ run c (k ⟨⟩) Q)
          -∗ run c (.op (.enqueueDma (slot sB j) (.remote (Dev.tc n : Thread nD τ) (slot rB j) (.dma (leftS j)) hsc) (.dma (cameS j)) hsrc hdst hsem) k) Q) := by
  subst hn
  unfold owns free
  iintro ⟨#HR, ⟨%fs, %hfs, Hs⟩, ⟨%X, Hd⟩, HO, Htl, Htc⟩
  unfold owns
  icases Hd with ⟨%fd, -, Hd⟩
  iapply (Rounds.wp_send_pointsTo 𝒱₀ EX (Rd m) (c : Thread nD τ) none (κ₁ := K (c, some (false, j))) (κ₂ := K (dest j c, some (true, j)))
    (c' := (dest j c : Thread nD τ)) (r₁ := 0) (r₂ := 0) (d₁ := 0) (d₂ := 0) (src := slot sB j) (dst := slot rB j) (sS := .dma (leftS j)) (sem := .dma (cameS j)) (fs := fs) (fd := fd)
    (by rw [duties_left]; exact Finset.mem_singleton_self _) (by rw [duties_came]; exact Finset.mem_singleton_self _)
    () () N (credit_r j) (amount_left m c j 0) (amount_came m (dest j c) j 0) O rfl (W := W)
    (by
      rw [payload_left]; unfold free owns
      iintro H; iexists _; iexists fs; isplitr; · ipureintro; rfl
      iexact H)
    (by
      rw [payload_came]; unfold camePay owns; rw [orig_dest]
      iintro H; iexists _; isplitr
      · ipureintro; exact (View.read_write_univ fd _).trans hfs
      iexact H))
  isplitr; · iapply (inv_at m K (c, some (false, j))); iexact HR
  isplitr; · iapply (inv_at m K (dest j c, some (true, j))); iexact HR
  isplitl [Hs]; · iexact Hs
  isplitl [Hd]; · iexact Hd
  isplitl [HO]; · iexact HO
  isplitl [Htl]; · iexact Htl
  isplitr; · iapply (reached_at m K (c, some (false, j))); iexact HR
  isplitl [Htc]; · iexact Htc
  iapply (reached_at m K (dest j c, some (true, j))); iexact HR

theorem left_ne_came (i j : Fin 3) : (SemLoc.dma (leftS i) : SemLoc sig) ≠ .dma (cameS j) := by revert i j; decide

/-- The wait for slot `j`'s departure: the slot is back, and the semaphore done with, at zero. -/
theorem step_left {α : Type} {Q : α → sProp 𝕄} (j : Fin 3) (O : CellTallies nD τ sig Unit) (hO : ArrivalsOnly O) (W : Waits sig Unit)
    {hsrc : (slot rB j).view.WordExact} {hdst : (slot sB j).view.WordExact} {k : PUnit → Prog (TpuEff nD τ sig (Elt F) Λ₀ .tc) α} :
    iprop(records m K ∗ levAts L lv ∗ cred (tallyAt (leftCell j c) () N) ∗ owes (c : Thread nD τ) O W ∗ atPos EX (leftCell j c) 0 ∅ 0)
      ⊢ iprop((owes (c : Thread nD τ) O (insert (SemLoc.dma (leftS j), ()) W) ∗ semVal (leftCell j c) 0 ∗ free sB j c -∗ run c (k ⟨⟩) Q)
          -∗ run c (.op (.waitDma2 (leftS j) (slot rB j) (slot sB j) hsrc hdst) k) Q) := by
  iintro ⟨#HR, #Hl, Hc, HO, Hat⟩ Hk
  iapply (Rounds.wp_wait_rest_token 𝒱₀ EX (Rd m) (c : Thread nD τ) none (κ := K (c, some (false, j)))
      (wpE_waitDma2_eq 𝒱₀ (c : Thread nD τ) none Set.univ) (Set.mem_univ _) () (O := O) (W := W) (R := 0) (m := 0) (T := ∅)
      (by rw [expect_left, credit_s, Nat.zero_add])) $$ [Hc HO Hat]
  · isplitr; · iapply (inv_at m K (c, some (false, j))); iexact HR
    isplitl [Hc]; · rw [credit_s]; iexact Hc
    isplitl [HO]; · iexact HO
    isplitr; · iapply (mayWait c _ (fun i => left_ne_came j i) O hO); iexact Hl
    iexact Hat
  iintro ⟨HO, Hat, -, Hp⟩
  ihave Hp := (Entails.of_eq (rest_left m c j)) $$ Hp
  imod (Rounds.cell_close EX (Rd m) (Set.mem_univ (K (c, some (false, j)))) (fun h => h) (R := 0 + 1) (duties_past m (leftCell j c))) $$ [Hat] with Hz
  · isplitr; · iapply (inv_at m K (c, some (false, j))); iexact HR
    iexact Hat
  iapply Hk
  isplitl [HO]; · iexact HO
  isplitl [Hz]; · iexact Hz
  iexact Hp

/-- The wait for the arrival at slot `j`: the slot holds the block cut by the device it comes from. -/
theorem step_came {α : Type} {Q : α → sProp 𝕄} (j : Fin 3) (W : Waits sig Unit)
    {hsrc : (slot sB j).view.WordExact} {hdst : (slot rB j).view.WordExact} {k : PUnit → Prog (TpuEff nD τ sig (Elt F) Λ₀ .tc) α} :
    iprop(records m K ∗ cred (tallyAt (cameCell j c) () N) ∗ owes (c : Thread nD τ) 0 W ∗ atPos EX (cameCell j c) 0 ∅ 0)
      ⊢ iprop((owes (c : Thread nD τ) 0 (insert (SemLoc.dma (cameS j), ()) W) ∗ semVal (cameCell j c) 0
            ∗ owns (c : Thread nD τ) (slot rB j) fullShare (cut m (orig j c) c) -∗ run c (k ⟨⟩) Q)
          -∗ run c (.op (.waitDma2 (cameS j) (slot sB j) (slot rB j) hsrc hdst) k) Q) := by
  iintro ⟨#HR, Hc, HO, Hat⟩ Hk
  iapply (Rounds.wp_wait_rest_token 𝒱₀ EX (Rd m) (c : Thread nD τ) none (κ := K (c, some (true, j)))
      (wpE_waitDma2_eq 𝒱₀ (c : Thread nD τ) none Set.univ) (Set.mem_univ _) () (O := 0) (W := W) (R := 0) (m := 0) (T := ∅)
      (by rw [expect_came, credit_r, Nat.zero_add])) $$ [Hc HO Hat]
  · isplitr; · iapply (inv_at m K (c, some (true, j))); iexact HR
    isplitl [Hc]; · rw [credit_r]; iexact Hc
    isplitl [HO]; · iexact HO
    isplitr; · rw [MayWait_zero]; iempintro
    iexact Hat
  iintro ⟨HO, Hat, -, Hp⟩
  ihave Hp := (Entails.of_eq (rest_came m c j)) $$ Hp
  imod (Rounds.cell_close EX (Rd m) (Set.mem_univ (K (c, some (true, j)))) (fun h => h) (R := 0 + 1) (duties_past m (cameCell j c))) $$ [Hat] with Hz
  · isplitr; · iapply (inv_at m K (c, some (true, j))); iexact HR
    iexact Hat
  iapply Hk
  isplitl [HO]; · iexact HO
  isplitl [Hz]; · iexact Hz
  unfold camePay; iexact Hp

/-! ## Loads and stores through a slot -/

theorem slot_set (b : Memref sig .tc .vmem S3x512x512 .bf16) (j : Fin 3) : (slot b j).view.set = (b.access (slotRect j)).set :=
  View.set_reshape _ _

omit [FloatOps F] in
/-- What is read off slot `j` as a matrix is what is loaded from it, the leading axis dropped. -/
theorem read_slot (b : Memref sig .tc .vmem S3x512x512 .bf16) (j : Fin 3) (f : b.view.ty.Contents (Elt F)) :
    (slot b j).view.read (Elt F) f
      = shapeCast S512x512 (b.view.readAt (Elt F) (slotRect j).toLoadRect f : Vec F S1x512x512 .bf16) shapeCasts_S1x512x512_S512x512 := rfl

omit [FloatOps F] in
/-- What a store of a matrix at slot `j` leaves there. -/
theorem read_slot_write (b : Memref sig .tc .vmem S3x512x512 .bf16) (j : Fin 3) (f : b.view.ty.Contents (Elt F)) (X : Vec F S512x512 .bf16) :
    (slot b j).view.read (Elt F) ((b.access (slotRect j)).write (Elt F) f (shapeCast S1x512x512 X shapeCasts_S512x512_S1x512x512) Finset.univ) = X := by
  rw [read_slot]
  refine (congrArg (fun v => shapeCast S512x512 v shapeCasts_S1x512x512_S512x512) (View.read_write_univ (v := b.access (slotRect j)) f _)).trans ?_
  funext i
  exact congrArg X (Equiv.apply_symm_apply _ _)

/-- A store of `X` at slot `j`. -/
theorem step_store {α : Type} {Q : α → sProp 𝕄} (b : Memref sig .tc .vmem S3x512x512 .bf16) (j : Fin 3) (X : Vec F S512x512 .bf16)
    {w : (slotRect j).shape.Idx → Elt F .bf16} (hw : w = shapeCast S1x512x512 X shapeCasts_S512x512_S1x512x512)
    {hx : (b.access (slotRect j)).Stores Finset.univ} {hm : (Finset.univ : Finset (slotRect j).shape.Idx) = Finset.univ ∨ ∀ a, (slotRect j).stride a = 1}
    {k : PUnit → Prog (TpuEff nD τ sig (Elt F) Λ₀ .tc) α} :
    free b j c ⊢ iprop((owns (c : Thread nD τ) (slot b j) fullShare X -∗ run c (k ⟨⟩) Q)
      -∗ run c (.op (.store b (slotRect j) w Finset.univ hx hm) k) Q) := by
  subst hw
  unfold free owns
  iintro ⟨%Y, %f, -, H⟩ Hk
  iapply (wp_store 𝒱₀ (c : Thread nD τ) none Set.univ (m := b) (r := slotRect j) (Mk := Finset.univ) (by rw [slot_set]; exact subset_rfl)) $$ H
  iintro H
  iapply Hk
  iexists _; isplitr
  · ipureintro; exact read_slot_write b j f X
  iexact H

/-- A load of slot `j` the program makes no use of. -/
theorem step_load_free {α : Type} {Q : α → sProp 𝕄} (b : Memref sig .tc .vmem S3x512x512 .bf16) (j : Fin 3)
    {hl : b.view.LoadsAt (slotRect j).toLoadRect} {k : ((slotRect j).toLoadRect.shape.Idx → Elt F .bf16) → Prog (TpuEff nD τ sig (Elt F) Λ₀ .tc) α} :
    free b j c ⊢ iprop((∀ v, free b j c -∗ run c (k v) Q) -∗ run c (.op (.load b (slotRect j).toLoadRect hl) k) Q) := by
  unfold free owns
  iintro ⟨%Y, %f, %hf, H⟩ Hk
  iapply (wp_load 𝒱₀ (c : Thread nD τ) none Set.univ (m := b) (by rw [slot_set]; exact (View.set_slice b.view (slotRect j)).ge)) $$ H
  iintro H
  iapply Hk
  iexists Y; iexists f; isplitr
  · ipureintro; exact hf
  iexact H

/-- A load of slot `j` holding `X`. -/
theorem step_load {α : Type} {Q : α → sProp 𝕄} (b : Memref sig .tc .vmem S3x512x512 .bf16) (j : Fin 3) (X : Vec F S512x512 .bf16)
    {hl : b.view.LoadsAt (slotRect j).toLoadRect} {k : ((slotRect j).toLoadRect.shape.Idx → Elt F .bf16) → Prog (TpuEff nD τ sig (Elt F) Λ₀ .tc) α} :
    owns (c : Thread nD τ) (slot b j) fullShare X
      ⊢ iprop((owns (c : Thread nD τ) (slot b j) fullShare X -∗ run c (k (shapeCast S1x512x512 X shapeCasts_S512x512_S1x512x512)) Q)
        -∗ run c (.op (.load b (slotRect j).toLoadRect hl) k) Q) := by
  unfold owns
  iintro ⟨%f, %hf, H⟩ Hk
  iapply (wp_load 𝒱₀ (c : Thread nD τ) none Set.univ (m := b) (by rw [slot_set]; exact (View.set_slice b.view (slotRect j)).ge)) $$ H
  iintro H
  have e : b.view.readAt (Elt F) (slotRect j).toLoadRect f = shapeCast S1x512x512 X shapeCasts_S512x512_S1x512x512 := by
    rw [← hf, read_slot]
    funext i
    exact (congrArg (b.view.readAt (Elt F) (slotRect j).toLoadRect f) (Equiv.apply_symm_apply _ i)).symm
  rw [e]
  iapply Hk
  iexists f; isplitr
  · ipureintro; exact hf
  iexact H

/-! ## Copies inside the device -/

section Local

variable {sp sp' : Space} {s : Shape} {e : EltTy}

omit [FloatOps F] in
/-- A memref's elements at some contents. -/
def anyOf (b : Memref sig .tc sp s e) : sProp 𝕄 := iprop(∃ X, owns (c : Thread nD τ) b fullShare X)

/-- A copy inside the device, in flight: the destination will hold what the source holds. -/
abbrev copying (sm : DmaSem sig) (src : Memref sig .tc sp s e) (dst : Memref sig .tc sp' s e) (X : s.Idx → Elt F e) : sProp 𝕄 :=
  Transfers.Flight (countersEmb : UEmb Counters 𝕄) (c : Thread nD τ) (.dma sm) () dst.view.dmaCredit
    iprop(owns (c : Thread nD τ) dst fullShare X ∗ owns (c : Thread nD τ) src fullShare X)

/-- A copy inside the device starts. -/
theorem step_copy {α : Type} {Q : α → sProp 𝕄} (hs : 0 < s.numel) (sm : DmaSem sig) (src : Memref sig .tc sp s e) (dst : Memref sig .tc sp' s e) (X : s.Idx → Elt F e)
    {hsrc : src.view.WordExact} {hdst : dst.view.WordExact} {hsem : DmaTarget.Typed (nD := nD) (p := (Proc.tc : Proc τ)) sp (.dma sm) (.here dst)}
    {k : PUnit → Prog (TpuEff nD τ sig (Elt F) Λ₀ .tc) α} :
    iprop(owns (c : Thread nD τ) src fullShare X ∗ anyOf c dst ∗ semVal ((c : Thread nD τ), .dma sm) 0)
      ⊢ iprop((copying c sm src dst X -∗ run c (k ⟨⟩) Q)
          -∗ run c (.op (.enqueueDma src (.here dst) (.dma sm) hsrc hdst hsem) k) Q) := by
  unfold anyOf owns
  iintro ⟨⟨%fs, %hfs, Hs⟩, ⟨%Y, %fd, -, Hd⟩, Hz⟩ Hk
  iapply (Transfers.wp_dmaLocal (countersEmb : UEmb Counters 𝕄) 𝒱₀ (c : Thread nD τ) none (src := src) (dst := dst) (fs := fs) (fd := fd)
    () dst.view.dmaCredit rfl (View.dmaCredit_pos _ hs) subset_rfl) $$ [Hs Hd Hz]
  · isplitl [Hs]; · iexact Hs
    isplitl [Hd]; · iexact Hd
    iexact Hz
  iintro Hf
  iapply Hk
  iapply (Transfers.Flight_mono (countersEmb : UEmb Counters 𝕄) (c : Thread nD τ) (by
    unfold owns
    iintro ⟨Hd, Hs⟩
    isplitl [Hd]
    · iexists _; isplitr
      · ipureintro; exact (View.read_write_univ fd _).trans hfs
      iexact Hd
    · iexists _; isplitr
      · ipureintro; exact hfs
      iexact Hs)) $$ Hf

/-- It ends. -/
theorem step_copied {α : Type} {Q : α → sProp 𝕄} (sm : DmaSem sig) (hsm : ∀ j, (SemLoc.dma sm : SemLoc sig) ≠ .dma (cameS j)) (src : Memref sig .tc sp s e) (dst : Memref sig .tc sp' s e)
    (X : s.Idx → Elt F e) (O : CellTallies nD τ sig Unit) (hO : ArrivalsOnly O) (W : Waits sig Unit)
    {hsrc : src.view.WordExact} {hdst : dst.view.WordExact} {k : PUnit → Prog (TpuEff nD τ sig (Elt F) Λ₀ .tc) α} :
    iprop(levAts L lv ∗ copying c sm src dst X ∗ owes (c : Thread nD τ) O W)
      ⊢ iprop((owns (c : Thread nD τ) dst fullShare X ∗ owns (c : Thread nD τ) src fullShare X ∗ semVal ((c : Thread nD τ), .dma sm) 0
            ∗ owes (c : Thread nD τ) O (insert (SemLoc.dma sm, ()) W) -∗ run c (k ⟨⟩) Q)
          -∗ run c (.op (.waitDma2 sm src dst hsrc hdst) k) Q) := by
  iintro ⟨#Hl, Hf, HO⟩ Hk
  iapply (Transfers.wp_waitLocalO (countersEmb : UEmb Counters 𝕄) 𝒱₀ (c : Thread nD τ) none () (rfl : dst.view.dmaCredit = dst.view.dmaCredit)) $$ [Hf HO]
  · isplitl [Hf]; · iexact Hf
    isplitl [HO]; · iexact HO
    iapply (mayWait c _ hsm O hO); iexact Hl
  iintro ⟨⟨Hd, Hs⟩, Hz, HO⟩
  iapply Hk
  isplitl [Hd]; · iexact Hd
  isplitl [Hs]; · iexact Hs
  isplitl [Hz]; · iexact Hz
  iexact HO

end Local

/-! ## Loads and stores of whole buffers and of their parts -/

section Access

variable {s : Shape} {e : EltTy}

/-- A load of a box of a memref holding `X`. -/
theorem step_read {α : Type} {Q : α → sProp 𝕄} (b : Memref sig .tc .vmem s e) (r : Rect s) (X : s.Idx → Elt F e)
    {hl : b.view.LoadsAt r.toLoadRect} {k : (r.toLoadRect.shape.Idx → Elt F e) → Prog (TpuEff nD τ sig (Elt F) Λ₀ .tc) α} :
    owns (c : Thread nD τ) b fullShare X
      ⊢ iprop((owns (c : Thread nD τ) b fullShare X -∗ run c (k (fun i => X (r.emb i))) Q)
        -∗ run c (.op (.load b r.toLoadRect hl) k) Q) := by
  unfold owns
  iintro ⟨%f, %hf, H⟩ Hk
  iapply (wp_load 𝒱₀ (c : Thread nD τ) none Set.univ (m := b) (View.setOn_subset_set _ _)) $$ H
  iintro H
  subst hf
  iapply Hk
  iexists f; isplitr
  · ipureintro; rfl
  iexact H

/-- The same where the box's corner is written in another way. -/
theorem step_read_at {α : Type} {Q : α → sProp 𝕄} (b : Memref sig .tc .vmem s e) {off off' size : Fin s.rank → ℕ} (h : off = off')
    (inb : ∀ a, off a + size a ≤ s.size a) (inb' : ∀ a, off' a + size a ≤ s.size a) (X : s.Idx → Elt F e)
    {hl : b.view.LoadsAt (Rect.unit (s := s) off size inb).toLoadRect}
    {k : ((Rect.unit (s := s) off size inb).toLoadRect.shape.Idx → Elt F e) → Prog (TpuEff nD τ sig (Elt F) Λ₀ .tc) α} :
    owns (c : Thread nD τ) b fullShare X
      ⊢ iprop((owns (c : Thread nD τ) b fullShare X -∗ run c (k (fun i => X ((Rect.unit (s := s) off' size inb').emb i))) Q)
        -∗ run c (.op (.load b (Rect.unit (s := s) off size inb).toLoadRect hl) k) Q) := by
  subst h
  exact step_read c b _ X

/-- A load of a box held by itself, the program making no use of it. -/
theorem step_read_part {α : Type} {Q : α → sProp 𝕄} (b : Memref sig .tc .vmem s e) (r : Rect s) (hr : ∀ a, r.stride a = 1)
    {hl : b.view.LoadsAt r.toLoadRect} {k : (r.toLoadRect.shape.Idx → Elt F e) → Prog (TpuEff nD τ sig (Elt F) Λ₀ .tc) α} :
    anyOf c (b.slice r hr) ⊢ iprop((∀ v, anyOf c (b.slice r hr) -∗ run c (k v) Q) -∗ run c (.op (.load b r.toLoadRect hl) k) Q) := by
  unfold anyOf owns
  iintro ⟨%X, %f, %hf, H⟩ Hk
  iapply (wp_load 𝒱₀ (c : Thread nD τ) none Set.univ (m := b) (View.set_slice b.view r).ge) $$ H
  iintro H
  iapply Hk
  iexists X; iexists f; isplitr
  · ipureintro; exact hf
  iexact H

/-- A store to a box held by itself. -/
theorem step_write_part {α : Type} {Q : α → sProp 𝕄} (b : Memref sig .tc .vmem s e) (r : Rect s) (hr : ∀ a, r.stride a = 1) (w : r.shape.Idx → Elt F e)
    {hx : (b.access r).Stores Finset.univ} {hm : (Finset.univ : Finset r.shape.Idx) = Finset.univ ∨ ∀ a, r.stride a = 1}
    {k : PUnit → Prog (TpuEff nD τ sig (Elt F) Λ₀ .tc) α} :
    anyOf c (b.slice r hr) ⊢ iprop((owns (c : Thread nD τ) (b.slice r hr) fullShare w -∗ run c (k ⟨⟩) Q)
      -∗ run c (.op (.store b r w Finset.univ hx hm) k) Q) := by
  unfold anyOf owns
  iintro ⟨%X, %f, -, H⟩ Hk
  iapply (wp_store 𝒱₀ (c : Thread nD τ) none Set.univ (m := b) (r := r) (Mk := Finset.univ) (by exact View.setOn_subset_set _ _)) $$ H
  iintro H
  iapply Hk
  iexists _; isplitr
  · ipureintro; exact View.read_write_univ (v := b.access r) f w
  iexact H

theorem corner : (![0, 0] : Fin 2 → ℕ) = fun _ => 0 := funext fun a => by fin_cases a <;> rfl

/-- The whole of `wB` as the box its stores name. -/
abbrev allW : Rect S2048x2048 := Rect.unit (s := S2048x2048) ![0, 0] S2048x2048.size inb_S2048x2048_S2048x2048_0_0

/-- Storing the whole of `wB` leaves just what was stored. -/
theorem read_all (f : (cc0_scratch2 : Ref sig .tc).ty.Contents (Elt F)) (w : allW.shape.Idx → Elt F .bf16) :
    wB.view.read (Elt F) ((wB.access allW).write (Elt F) f w Finset.univ) = w := by
  have h := Memref.write_access_unit_zero_univ (Elt F) cc0_scratch2 corner inb_S2048x2048_S2048x2048_0_0 f w
  exact h

/-- A load of the whole of the narrow copy of `w`, the program making no use of it. -/
theorem step_read_wB {α : Type} {Q : α → sProp 𝕄} {hl : wB.view.LoadsAt allW.toLoadRect}
    {k : (allW.toLoadRect.shape.Idx → Elt F .bf16) → Prog (TpuEff nD τ sig (Elt F) Λ₀ .tc) α} :
    anyOf c wB ⊢ iprop((∀ v, anyOf c wB -∗ run c (k v) Q) -∗ run c (.op (.load wB allW.toLoadRect hl) k) Q) := by
  unfold anyOf
  iintro ⟨%X, H⟩ Hk
  iapply (step_read c wB allW X) $$ H
  iintro H
  iapply Hk
  iexists X; iexact H

/-- A store of the whole of it. -/
theorem step_write_wB {α : Type} {Q : α → sProp 𝕄} (w : allW.shape.Idx → Elt F .bf16)
    {hx : (wB.access allW).Stores Finset.univ} {hm : (Finset.univ : Finset allW.shape.Idx) = Finset.univ ∨ ∀ a, allW.stride a = 1}
    {k : PUnit → Prog (TpuEff nD τ sig (Elt F) Λ₀ .tc) α} :
    anyOf c wB ⊢ iprop((owns (c : Thread nD τ) wB fullShare w -∗ run c (k ⟨⟩) Q)
      -∗ run c (.op (.store wB allW w Finset.univ hx hm) k) Q) := by
  unfold anyOf owns
  iintro ⟨%X, %f, -, H⟩ Hk
  iapply (wp_store 𝒱₀ (c : Thread nD τ) none Set.univ (m := wB) (r := allW) (Mk := Finset.univ) (View.set_slice_subset wB.view allW)) $$ H
  iintro H
  iapply Hk
  iexists _; isplitr
  · ipureintro; exact read_all f w
  iexact H

end Access

end Cert.KernelIdeal.Exchange

end
-- ==== Proof.IdealBody.lean ====
/-
# The kernel of one device, run to its end

The values it computes, named after the products they stand for, and its run at a symbolic device: from its tokens, its
credits and its buffers to the two halves of its block of the output, everything else given back.
-/
module

public import proofs.«01_k».proof.Proof.IdealSteps

@[expose] public section

set_option maxRecDepth 16384

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Part → ℕ) (c : Dev nD)

/-! ## What the kernel computes -/

/-- The narrow copy of `w`. -/
def wNarrow : FVec F S2048x2048 .bf16 := k0_pay5 (fun i => wOf m c (allW.emb i))
/-- The rows of the narrow copy that meet device `p`'s columns of `x`. -/
def wRows (p : Dev nD) : Vec F S512x2048 .bf16 := fun i => wNarrow m c ((rowsW p).emb i)
/-- The block a device sent, as it lies in the slot it came to. -/
abbrev came (j : Fin 3) : Vec F S1x512x512 .bf16 := shapeCast S1x512x512 (cut m (orig j c) c) shapeCasts_S512x512_S1x512x512
/-- The device's own product and that with the block in slot 0. -/
def acc2 : FVec F S512x2048 .f32 := k0_pay7 (cut m c c) (wRows m c c) (came m c 0) (wRows m c (orig 0 c))
/-- With the block in slot 2 as well. -/
def acc3 : FVec F S512x2048 .f32 := k0_pay8 (acc2 m c) (came m c 2) (wRows m c (orig 2 c))
/-- The left and the right half of the block of the output. -/
def outL : FVec F S512x1024 .bf16 := k0_pay9 (acc3 m c) (came m c 1) (wRows m c (orig 1 c))
def outR : FVec F S512x1024 .bf16 := k0_pay11 (k0_pay10 (acc3 m c)) (came m c 1) (wRows m c (orig 1 c))

/-! ## The two halves of a block of the output -/

abbrev leftHalf : Rect S512x2048 := Rect.unit (s := S512x2048) ![0, 0] S512x1024.size inb_S512x2048_S512x1024_0_0
abbrev rightHalf : Rect S512x2048 := Rect.unit (s := S512x2048) ![0, 1024] S512x1024.size inb_S512x2048_S512x1024_0_1024
abbrev leftOf {sp : Space} (b : Memref sig .tc sp S512x2048 .bf16) : Memref sig .tc sp S512x1024 .bf16 := b.slice leftHalf (fun _ => rfl)
abbrev rightOf {sp : Space} (b : Memref sig .tc sp S512x2048 .bf16) : Memref sig .tc sp S512x1024 .bf16 := b.slice rightHalf (fun _ => rfl)

/-! ## Before and after -/

/-- The tokens a device pays with. -/
def toks : sProp 𝕄 :=
  iprop(dutyTok EX (readyCell (orig 0 c)) 0 0 ∗ dutyTok EX (readyCell (orig 1 c)) 0 1 ∗ dutyTok EX (readyCell (orig 2 c)) 0 2
    ∗ dutyTok EX (leftCell 0 c) 0 0 ∗ dutyTok EX (leftCell 1 c) 0 0 ∗ dutyTok EX (leftCell 2 c) 0 0
    ∗ dutyTok EX (cameCell 0 (dest 0 c)) 0 0 ∗ dutyTok EX (cameCell 1 (dest 1 c)) 0 0 ∗ dutyTok EX (cameCell 2 (dest 2 c)) 0 0)
/-- Its positions in the schedule. -/
def places : sProp 𝕄 :=
  iprop(atPos EX (readyCell c) 0 ∅ 0 ∗ atPos EX (leftCell 0 c) 0 ∅ 0 ∗ atPos EX (leftCell 1 c) 0 ∅ 0 ∗ atPos EX (leftCell 2 c) 0 ∅ 0
    ∗ atPos EX (cameCell 0 c) 0 ∅ 0 ∗ atPos EX (cameCell 1 c) 0 ∅ 0 ∗ atPos EX (cameCell 2 c) 0 ∅ 0)
/-- The credit for what others pay it. -/
def credits : sProp 𝕄 :=
  iprop(cred (tallyAt (readyCell c) () 3) ∗ cred (tallyAt (cameCell 0 c) () N) ∗ cred (tallyAt (cameCell 1 c) () N) ∗ cred (tallyAt (cameCell 2 c) () N))
/-- Its semaphores of the exchange, at zero. -/
def closed : sProp 𝕄 :=
  iprop(semVal (readyCell c) 0 ∗ semVal (leftCell 0 c) 0 ∗ semVal (leftCell 1 c) 0 ∗ semVal (leftCell 2 c) 0
    ∗ semVal (cameCell 0 c) 0 ∗ semVal (cameCell 1 c) 0 ∗ semVal (cameCell 2 c) 0)
/-- The semaphores of its own copies, at zero. -/
def ownZero : sProp 𝕄 := iprop(semVal ((c : Thread nD τ), .dma ownS0) 0 ∗ semVal ((c : Thread nD τ), .dma ownS1) 0)
/-- Its arguments. -/
def args : sProp 𝕄 := iprop(owns (c : Thread nD τ) xH fullShare (xOf m c) ∗ owns (c : Thread nD τ) wH fullShare (wOf m c))
/-- Its buffers in VMEM, holding anything. -/
def scratch : sProp 𝕄 :=
  iprop(anyOf c xV ∗ anyOf c wV ∗ anyOf c wB ∗ (free rB 0 c ∗ free rB 1 c ∗ free rB 2 c) ∗ (free sB 0 c ∗ free sB 1 c ∗ free sB 2 c)
    ∗ anyOf c (leftOf oV) ∗ anyOf c (rightOf oV))
/-- Its block of the output, computed. -/
def result : sProp 𝕄 := iprop(owns (c : Thread nD τ) (leftOf oH) fullShare (outL m c) ∗ owns (c : Thread nD τ) (rightOf oH) fullShare (outR m c))

theorem own0_ne_came (j : Fin 3) : (SemLoc.dma ownS0 : SemLoc sig) ≠ .dma (cameS j) := by revert j; decide
theorem own1_ne_came (j : Fin 3) : (SemLoc.dma ownS1 : SemLoc sig) ≠ .dma (cameS j) := by revert j; decide

set_option maxHeartbeats 4000000 in
/-- The kernel of device `c`, from its start to its end. -/
theorem body_run (W : Waits sig Unit) (Q : PUnit → sProp 𝕄) :
    iprop(records m K ∗ levAts L lv ∗ toks c ∗ places c ∗ credits c ∗ ownZero c ∗ args m c ∗ scratch c
        ∗ (anyOf c (leftOf oH) ∗ anyOf c (rightOf oH)) ∗ owes (c : Thread nD τ) (owed0 c) W)
      ⊢ iprop((∀ W', closed c ∗ ownZero c ∗ args m c ∗ scratch c ∗ result m c ∗ owes (c : Thread nD τ) 0 W' -∗ Q ⟨⟩)
        -∗ run c (cc0_body (F := F) xH (Memref.isWhole_whole _) wH (Memref.isWhole_whole _) oH (Memref.isWhole_whole _) xV (Memref.isWhole_whole _)
            wV (Memref.isWhole_whole _) wB (Memref.isWhole_whole _) rB (Memref.isWhole_whole _) sB (Memref.isWhole_whole _) oV (Memref.isWhole_whole _)
            cc0_scratch6 cc0_scratch7 cc0_scratch8) Q) := by
  simp only [cc0_body_eq_skeleton]
  unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton]
  unfold k0_part1_skel k0_part2_skel k0_part3_skel k0_part4_skel k0_part5_skel k0_part6_skel k0_part7_skel k0_part8_skel k0_part9_skel k0_part10_skel
  simp only [semSignalWord, semWaitWord, Prog.lift, Prog.bind_op, Prog.bind_ret, Prog.pure_eq_ret, wp_deviceId]
  unfold toks places credits ownZero args scratch owed0 owed3
  iintro ⟨#HR, #Hl, ⟨Tr0, Tr1, Tr2, Tl0, Tl1, Tl2, Tc0, Tc1, Tc2⟩, ⟨Pr, Pl0, Pl1, Pl2, Pc0, Pc1, Pc2⟩, ⟨Cr, Cc0, Cc1, Cc2⟩, ⟨Z0, Z1⟩, ⟨Hx, Hw⟩,
    ⟨HxV, HwV, HwB, ⟨Hr0, Hr1, Hr2⟩, ⟨Hs0, Hs1, Hs2⟩, HoL, HoR⟩, ⟨HhL, HhR⟩, HO⟩ Hk
  -- the arguments start for VMEM
  iapply (step_copy c (by decide) ownS0 xH xV (xOf m c)) $$ [Hx HxV Z0]
  · isplitl [Hx]; · iexact Hx
    isplitl [HxV]; · iexact HxV
    iexact Z0
  iintro Hfx
  iapply (step_copy c (by decide) ownS1 wH wV (wOf m c)) $$ [Hw HwV Z1]
  · isplitl [Hw]; · iexact Hw
    isplitl [HwV]; · iexact HwV
    iexact Z1
  iintro Hfw
  -- the ready signals
  iapply (step_signal m K c 2 _ (sig1_eq c)) $$ [HO Tr2 Hr2]
  · isplitr; · iexact HR
    isplitl [HO]; · iexact HO
    isplitl [Tr2]; · iexact Tr2
    iexact Hr2
  iintro HO
  iapply (step_signal m K c 1 _ (sig2_eq c)) $$ [HO Tr1 Hr1]
  · isplitr; · iexact HR
    isplitl [HO]; · iexact HO
    isplitl [Tr1]; · iexact Tr1
    iexact Hr1
  iintro HO
  iapply (step_signal m K c 0 _ (sig3_eq c)) $$ [HO Tr0 Hr0]
  · isplitr; · iexact HR
    isplitl [HO]; · iexact HO
    isplitl [Tr0]; · iexact Tr0
    iexact Hr0
  iintro HO
  iapply (step_ready m K c _ (arrivals_owed3 c)) $$ [Cr HO Pr]
  · isplitr; · iexact HR
    isplitr; · iexact Hl
    isplitl [Cr]; · iexact Cr
    isplitl [HO]; · iexact HO
    iexact Pr
  iintro ⟨HO, Zr, Hd0, Hd1, Hd2⟩
  iapply (step_copied c ownS0 own0_ne_came xH xV (xOf m c) _ (arrivals_owed3 c)) $$ [Hfx HO]
  · isplitr; · iexact Hl
    isplitl [Hfx]; · iexact Hfx
    iexact HO
  iintro ⟨HxV, Hx, Z0, HO⟩
  -- slots 0, 2 and 1 are filled and leave
  iapply (step_read_at c xV (cut_off 0 c) _ (rowsX_inb (dest 0 c)) (xOf m c)) $$ HxV
  iintro HxV
  iapply (step_load_free c sB 0) $$ Hs0
  iintro %v0 Hs0
  iapply (step_store c sB 0 (cut m c (dest 0 c)) rfl) $$ Hs0
  iintro Hs0
  iapply (step_send m K c 0 _ (dst0_eq c)) $$ [Hs0 Hd0 HO Tl0 Tc0]
  · isplitr; · iexact HR
    isplitl [Hs0]; · iexact Hs0
    isplitl [Hd0]; · iexact Hd0
    isplitl [HO]; · iexact HO
    isplitl [Tl0]; · iexact Tl0
    iexact Tc0
  iintro ⟨Cl0, HO⟩
  iapply (step_read_at c xV (cut_off 2 c) _ (rowsX_inb (dest 2 c)) (xOf m c)) $$ HxV
  iintro HxV
  iapply (step_load_free c sB 2) $$ Hs2
  iintro %v2 Hs2
  iapply (step_store c sB 2 (cut m c (dest 2 c)) rfl) $$ Hs2
  iintro Hs2
  iapply (step_send m K c 2 _ (dst2_eq c)) $$ [Hs2 Hd2 HO Tl2 Tc2]
  · isplitr; · iexact HR
    isplitl [Hs2]; · iexact Hs2
    isplitl [Hd2]; · iexact Hd2
    isplitl [HO]; · iexact HO
    isplitl [Tl2]; · iexact Tl2
    iexact Tc2
  iintro ⟨Cl2, HO⟩
  iapply (step_read_at c xV (cut_off 1 c) _ (rowsX_inb (dest 1 c)) (xOf m c)) $$ HxV
  iintro HxV
  -- the program waits for slots 0 and 2 to have left before it sends slot 1
  iapply (step_load_free c sB 1) $$ Hs1
  iintro %v1 Hs1
  iapply (step_store c sB 1 (cut m c (dest 1 c)) rfl) $$ Hs1
  iintro Hs1
  iapply (step_left m K c 0 _ (ArrivalsOnly.debt 1 c)) $$ [Cl0 HO Pl0]
  · isplitr; · iexact HR
    isplitr; · iexact Hl
    isplitl [Cl0]; · iexact Cl0
    isplitl [HO]; · iexact HO
    iexact Pl0
  iintro ⟨HO, Zl0, Hs0⟩
  iapply (step_left m K c 2 _ (ArrivalsOnly.debt 1 c)) $$ [Cl2 HO Pl2]
  · isplitr; · iexact HR
    isplitr; · iexact Hl
    isplitl [Cl2]; · iexact Cl2
    isplitl [HO]; · iexact HO
    iexact Pl2
  iintro ⟨HO, Zl2, Hs2⟩
  ihave HO := (Entails.of_eq (congrArg (fun O => owes (c : Thread nD τ) O _) (zero_add (debt 1 c)).symm)) $$ HO
  iapply (step_send m K c 1 _ (dst1_eq c)) $$ [Hs1 Hd1 HO Tl1 Tc1]
  · isplitr; · iexact HR
    isplitl [Hs1]; · iexact Hs1
    isplitl [Hd1]; · iexact Hd1
    isplitl [HO]; · iexact HO
    isplitl [Tl1]; · iexact Tl1
    iexact Tc1
  iintro ⟨Cl1, HO⟩
  -- the narrow copy of `w`
  iapply (step_copied c ownS1 own1_ne_came wH wV (wOf m c) _ ArrivalsOnly.zero) $$ [Hfw HO]
  · isplitr; · iexact Hl
    isplitl [Hfw]; · iexact Hfw
    iexact HO
  iintro ⟨HwV, Hw, Z1, HO⟩
  iapply (step_read c wV allW (wOf m c)) $$ HwV
  iintro HwV
  iapply (step_read_wB c) $$ HwB
  iintro %u HwB
  iapply (step_write_wB c (wNarrow m c)) $$ HwB
  iintro HwB
  -- the products
  iapply (step_read_at c xV (k0_off2_eq c) _ (rowsX_inb c) (xOf m c)) $$ HxV
  iintro HxV
  iapply (step_read_at c wB (k0_off3_eq c) _ (rowsW_inb c) (wNarrow m c)) $$ HwB
  iintro HwB
  iapply (step_came m K c 0) $$ [Cc0 HO Pc0]
  · isplitr; · iexact HR
    isplitl [Cc0]; · iexact Cc0
    isplitl [HO]; · iexact HO
    iexact Pc0
  iintro ⟨HO, Zc0, Hr0⟩
  iapply (step_load c rB 0 (cut m (orig 0 c) c)) $$ Hr0
  iintro Hr0
  iapply (step_read_at c wB (meet_off 0 c) _ (rowsW_inb (orig 0 c)) (wNarrow m c)) $$ HwB
  iintro HwB
  iapply (step_came m K c 2) $$ [Cc2 HO Pc2]
  · isplitr; · iexact HR
    isplitl [Cc2]; · iexact Cc2
    isplitl [HO]; · iexact HO
    iexact Pc2
  iintro ⟨HO, Zc2, Hr2⟩
  iapply (step_load c rB 2 (cut m (orig 2 c) c)) $$ Hr2
  iintro Hr2
  iapply (step_read_at c wB (meet_off 2 c) _ (rowsW_inb (orig 2 c)) (wNarrow m c)) $$ HwB
  iintro HwB
  iapply (step_came m K c 1) $$ [Cc1 HO Pc1]
  · isplitr; · iexact HR
    isplitl [Cc1]; · iexact Cc1
    isplitl [HO]; · iexact HO
    iexact Pc1
  iintro ⟨HO, Zc1, Hr1⟩
  iapply (step_load c rB 1 (cut m (orig 1 c) c)) $$ Hr1
  iintro Hr1
  iapply (step_read_at c wB (meet_off 1 c) _ (rowsW_inb (orig 1 c)) (wNarrow m c)) $$ HwB
  iintro HwB
  -- the left half of the output, then the right
  iapply (step_read_part c oV leftHalf (fun _ => rfl)) $$ HoL
  iintro %vl HoL
  iapply (step_write_part c oV leftHalf (fun _ => rfl) (outL m c)) $$ HoL
  iintro HoL
  iapply (step_copy c (by decide) ownS0 (leftOf oV) (leftOf oH) (outL m c)) $$ [HoL HhL Z0]
  · isplitl [HoL]; · iexact HoL
    isplitl [HhL]; · iexact HhL
    iexact Z0
  iintro HfL
  iapply (step_load c rB 1 (cut m (orig 1 c) c)) $$ Hr1
  iintro Hr1
  iapply (step_read_at c wB (meet_off 1 c) _ (rowsW_inb (orig 1 c)) (wNarrow m c)) $$ HwB
  iintro HwB
  iapply (step_read_part c oV rightHalf (fun _ => rfl)) $$ HoR
  iintro %vr HoR
  iapply (step_write_part c oV rightHalf (fun _ => rfl) (outR m c)) $$ HoR
  iintro HoR
  iapply (step_copy c (by decide) ownS1 (rightOf oV) (rightOf oH) (outR m c)) $$ [HoR HhR Z1]
  · isplitl [HoR]; · iexact HoR
    isplitl [HhR]; · iexact HhR
    iexact Z1
  iintro HfR
  iapply (step_copied c ownS0 own0_ne_came (leftOf oV) (leftOf oH) (outL m c) _ ArrivalsOnly.zero) $$ [HfL HO]
  · isplitr; · iexact Hl
    isplitl [HfL]; · iexact HfL
    iexact HO
  iintro ⟨HhL, HoL, Z0, HO⟩
  iapply (step_copied c ownS1 own1_ne_came (rightOf oV) (rightOf oH) (outR m c) _ ArrivalsOnly.zero) $$ [HfR HO]
  · isplitr; · iexact Hl
    isplitl [HfR]; · iexact HfR
    iexact HO
  iintro ⟨HhR, HoR, Z1, HO⟩
  iapply (step_left m K c 1 _ ArrivalsOnly.zero) $$ [Cl1 HO Pl1]
  · isplitr; · iexact HR
    isplitr; · iexact Hl
    isplitl [Cl1]; · iexact Cl1
    isplitl [HO]; · iexact HO
    iexact Pl1
  iintro ⟨HO, Zl1, Hs1⟩
  unfold run; rw [wp_ret]; imodintro
  iapply Hk
  unfold closed result anyOf free
  isplitl [Zr Zl0 Zl1 Zl2 Zc0 Zc1 Zc2]
  · isplitl [Zr]; · iexact Zr
    isplitl [Zl0]; · iexact Zl0
    isplitl [Zl1]; · iexact Zl1
    isplitl [Zl2]; · iexact Zl2
    isplitl [Zc0]; · iexact Zc0
    isplitl [Zc1]; · iexact Zc1
    iexact Zc2
  isplitl [Z0 Z1]
  · isplitl [Z0]; · iexact Z0
    iexact Z1
  isplitl [Hx Hw]
  · isplitl [Hx]; · iexact Hx
    iexact Hw
  isplitl [HxV HwV HwB Hr0 Hr1 Hr2 Hs0 Hs1 Hs2 HoL HoR]
  · isplitl [HxV]; · iexists _; iexact HxV
    isplitl [HwV]; · iexists _; iexact HwV
    isplitl [HwB]; · iexists _; iexact HwB
    isplitl [Hr0 Hr1 Hr2]
    · isplitl [Hr0]; · iexists _; iexact Hr0
      isplitl [Hr1]; · iexists _; iexact Hr1
      iexists _; iexact Hr2
    isplitl [Hs0 Hs1 Hs2]
    · isplitl [Hs0]; · iexact Hs0
      isplitl [Hs1]; · iexact Hs1
      iexact Hs2
    isplitl [HoL]; · iexists _; iexact HoL
    iexists _; iexact HoR
  isplitl [HhL HhR]
  · isplitl [HhL]; · iexact HhL
    iexact HhR
  iexact HO

end Cert.KernelIdeal.Exchange
-- ==== Proof.IdealBuffers.lean ====
/-
# The buffers, whole and in parts

A buffer held whole is its boxes held one by one, where the boxes are apart and cover it: the three slots of the send
and the receive buffer, the two halves of the block of the output.
-/
module

public import proofs.«01_k».proof.Proof.IdealBody

@[expose] public section

set_option maxRecDepth 16384

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

section Boxes

variable {sp : Space} {s : Shape} {e : EltTy} {T : Type} [Fintype T] [DecidableEq T]

omit [FloatOps F] [Fintype T] [DecidableEq T] in
theorem boxes_apart (b : Memref sig .tc sp s e) (R : T → Rect s) (hd : ∀ t t' : T, t ≠ t' → Disjoint (R t).set (R t').set) (t t' : T) (h : t ≠ t') :
    Disjoint (b.view.slice (R t)).set (b.view.slice (R t')).set := by
  rw [View.set_slice, View.set_slice]; exact (Finset.disjoint_map _).mpr (hd t t' h)

omit [FloatOps F] in
theorem boxes_cover (b : Memref sig .tc sp s e) (R : T → Rect s) (hc : ∀ i, ∃ t, i ∈ (R t).set) :
    (Finset.univ.biUnion fun t => (b.view.slice (R t)).set) = b.view.set := by
  ext i
  constructor
  · intro h
    obtain ⟨t, -, h⟩ := Finset.mem_biUnion.mp h
    exact View.set_slice_subset b.view (R t) h
  · intro h
    obtain ⟨x, -, rfl⟩ := Finset.mem_map.mp h
    obtain ⟨t, ht⟩ := hc x
    exact Finset.mem_biUnion.mpr ⟨t, Finset.mem_univ _, by rw [View.set_slice]; exact Finset.mem_map_of_mem _ ht⟩

omit [FloatOps F] in
/-- A buffer is its boxes. -/
theorem cut_up (b : Memref sig .tc sp s e) (R : T → Rect s) (hd : ∀ t t' : T, t ≠ t' → Disjoint (R t).set (R t').set) (hc : ∀ i, ∃ t, i ∈ (R t).set)
    (f : Buf (Elt F) (b.view.loc (c : Thread nD τ))) :
    (b.view.loc (c : Thread nD τ) ↦[b.view.set]{fullShare} f : sProp 𝕄)
      = bigSep Finset.univ fun t => b.view.loc (c : Thread nD τ) ↦[(b.view.slice (R t)).set]{fullShare} f := by
  rw [← boxes_cover b R hc]
  exact pointsTo_biUnion _ _ fun t _ t' _ h => boxes_apart b R hd t t' h

omit [FloatOps F] in
/-- The boxes put together are the buffer, each box reading what it read. -/
theorem put_together [Nonempty T] (b : Memref sig .tc sp s e) (R : T → Rect s) (hd : ∀ t t' : T, t ≠ t' → Disjoint (R t).set (R t').set) (hc : ∀ i, ∃ t, i ∈ (R t).set)
    (fs : T → Buf (Elt F) (b.view.loc (c : Thread nD τ))) :
    (bigSep Finset.univ fun t => (b.view.loc (c : Thread nD τ) ↦[(b.view.slice (R t)).set]{fullShare} fs t : sProp 𝕄))
      ⊢ iprop(∃ g : Buf (Elt F) (b.view.loc (c : Thread nD τ)),
          ⌜∀ t, (b.view.slice (R t)).read (Elt F) g = (b.view.slice (R t)).read (Elt F) (fs t)⌝ ∗ b.view.loc (c : Thread nD τ) ↦[b.view.set]{fullShare} g) := by
  iintro H
  ihave H := (pointsTo_biUnion_join Finset.univ (fun t => (b.view.slice (R t)).set) fs (fs (Classical.arbitrary T))
    fun t _ t' _ h => boxes_apart b R hd t t' h) $$ H
  icases H with ⟨%g, %hg, H⟩
  iexists g
  isplitr
  · ipureintro; exact fun t => View.read_congr fun i hi => hg t (Finset.mem_univ _) i hi
  ihave H := (Entails.of_eq (congrArg (fun S => (b.view.loc (c : Thread nD τ) ↦[S]{fullShare} g : sProp 𝕄)) (boxes_cover b R hc))) $$ H
  iexact H

end Boxes

/-! ## The three slots -/

theorem slots_apart (j j' : Fin 3) (h : j ≠ j') : Disjoint (slotRect j).set (slotRect j').set := by
  rw [Finset.disjoint_left]
  intro i hi hi'
  have h1 := (Rect.mem_set_unit.mp hi) 0
  have h2 := (Rect.mem_set_unit.mp hi') 0
  have a1 : j.val ≤ (i 0).val ∧ (i 0).val < j.val + 1 := h1
  have a2 : j'.val ≤ (i 0).val ∧ (i 0).val < j'.val + 1 := h2
  exact h (Fin.ext (by omega))

theorem slots_cover (i : S3x512x512.Idx) : ∃ j, i ∈ (slotRect j).set := by
  refine ⟨(i 0 : Fin 3), Rect.mem_set_unit.mpr fun a => ?_⟩
  fin_cases a
  · exact ⟨le_refl (i 0).val, Nat.lt_succ_self (i 0).val⟩
  · exact ⟨Nat.zero_le _, (Nat.zero_add 512).symm ▸ (i 1).isLt⟩
  · exact ⟨Nat.zero_le _, (Nat.zero_add 512).symm ▸ (i 2).isLt⟩

theorem split_slots (b : Memref sig .tc .vmem S3x512x512 .bf16) :
    (anyOf (F := F) c b : sProp 𝕄) ⊢ iprop(free b 0 c ∗ free b 1 c ∗ free b 2 c) := by
  unfold anyOf
  iintro ⟨%X, H⟩
  unfold owns
  icases H with ⟨%f, -, H⟩
  ihave H := (Entails.of_eq ((cut_up c b slotRect slots_apart slots_cover f).trans (bigSep_three _))) $$ H
  have one (j : Fin 3) : (b.view.loc (c : Thread nD τ) ↦[(b.view.slice (slotRect j)).set]{fullShare} f : sProp 𝕄) ⊢ free b j c := by
    unfold free owns
    iintro H
    iexists _; iexists f
    isplitr; · ipureintro; rfl
    rw [slot_set]; iexact H
  icases H with ⟨H0, H1, H2⟩
  isplitl [H0]; · iapply (one 0); iexact H0
  isplitl [H1]; · iapply (one 1); iexact H1
  iapply (one 2); iexact H2

theorem join_slots (b : Memref sig .tc .vmem S3x512x512 .bf16) :
    iprop(free (F := F) b 0 c ∗ free b 1 c ∗ free b 2 c) ⊢ (anyOf c b : sProp 𝕄) := by
  have one (j : Fin 3) : free b j c ⊢ (iprop(∃ f : Buf (Elt F) (b.view.loc (c : Thread nD τ)),
      b.view.loc (c : Thread nD τ) ↦[(b.view.slice (slotRect j)).set]{fullShare} f) : sProp 𝕄) := by
    unfold free owns
    rw [slot_set]
    iintro ⟨%X, %f, -, H⟩
    iexists f; iexact H
  iintro ⟨H0, H1, H2⟩
  ihave H0 := (one 0) $$ H0
  ihave H1 := (one 1) $$ H1
  ihave H2 := (one 2) $$ H2
  icases H0 with ⟨%f0, H0⟩
  icases H1 with ⟨%f1, H1⟩
  icases H2 with ⟨%f2, H2⟩
  ihave H := (put_together c b slotRect slots_apart slots_cover ![f0, f1, f2]) $$ [H0 H1 H2]
  · rw [bigSep_three]
    isplitl [H0]; · iexact H0
    isplitl [H1]; · iexact H1
    iexact H2
  icases H with ⟨%g, -, H⟩
  unfold anyOf owns
  iexists _; iexists g
  isplitr; · ipureintro; rfl
  iexact H

/-! ## The two halves -/

/-- The halves by number. -/
abbrev half : Fin 2 → Rect S512x2048
  | 0 => leftHalf
  | 1 => rightHalf

theorem mem_left (i : S512x2048.Idx) : i ∈ leftHalf.set ↔ (i 1).val < 1024 := by
  rw [Rect.mem_set_unit, Fin.forall_fin_two]
  have h0 : (i 0).val < 512 := (i 0).isLt
  show ((0 ≤ (i 0).val ∧ (i 0).val < 0 + 512) ∧ 0 ≤ (i 1).val ∧ (i 1).val < 0 + 1024) ↔ _
  omega

theorem mem_right (i : S512x2048.Idx) : i ∈ rightHalf.set ↔ 1024 ≤ (i 1).val := by
  rw [Rect.mem_set_unit, Fin.forall_fin_two]
  have h0 : (i 0).val < 512 := (i 0).isLt
  have h1 : (i 1).val < 2048 := (i 1).isLt
  show ((0 ≤ (i 0).val ∧ (i 0).val < 0 + 512) ∧ 1024 ≤ (i 1).val ∧ (i 1).val < 1024 + 1024) ↔ _
  omega

theorem left_apart_right : Disjoint leftHalf.set rightHalf.set := by
  rw [Finset.disjoint_left]
  intro i hi hi'
  rw [mem_left] at hi
  rw [mem_right] at hi'
  omega

theorem halves_apart : ∀ t t' : Fin 2, t ≠ t' → Disjoint (half t).set (half t').set
  | 0, 0, h => absurd rfl h
  | 0, 1, _ => left_apart_right
  | 1, 0, _ => left_apart_right.symm
  | 1, 1, h => absurd rfl h

theorem halves_cover (i : S512x2048.Idx) : ∃ t, i ∈ (half t).set := by
  by_cases h : (i 1).val < 1024
  · exact ⟨0, (mem_left i).mpr h⟩
  · exact ⟨1, (mem_right i).mpr (Nat.le_of_not_lt h)⟩

omit [FloatOps F] in
theorem bigSep_two (Φ : Fin 2 → sProp 𝕄) : bigSep Finset.univ Φ = iprop(Φ 0 ∗ Φ 1) :=
  bigSep_univ_eq_bigSepL [0, 1] (by decide) (by decide) Φ

theorem split_halves {sp : Space} (b : Memref sig .tc sp S512x2048 .bf16) :
    (anyOf (F := F) c b : sProp 𝕄) ⊢ iprop(anyOf c (leftOf b) ∗ anyOf c (rightOf b)) := by
  unfold anyOf
  iintro ⟨%X, H⟩
  unfold owns
  icases H with ⟨%f, -, H⟩
  ihave H := (Entails.of_eq ((cut_up c b half halves_apart halves_cover f).trans (bigSep_two _))) $$ H
  icases H with ⟨H0, H1⟩
  isplitl [H0]
  · iexists _; iexists f
    isplitr; · ipureintro; rfl
    iexact H0
  · iexists _; iexists f
    isplitr; · ipureintro; rfl
    iexact H1

/-- The two halves put together, each still holding what it held. -/
theorem join_halves {sp : Space} (b : Memref sig .tc sp S512x2048 .bf16) (X Y : S512x1024.Idx → Elt F .bf16) :
    iprop(owns (c : Thread nD τ) (leftOf b) fullShare X ∗ owns (c : Thread nD τ) (rightOf b) fullShare Y)
      ⊢ (iprop(∃ Z, ⌜(∀ i, Z (leftHalf.emb i) = X i) ∧ ∀ i, Z (rightHalf.emb i) = Y i⌝ ∗ owns (c : Thread nD τ) b fullShare Z) : sProp 𝕄) := by
  unfold owns
  iintro ⟨⟨%f0, %h0, H0⟩, ⟨%f1, %h1, H1⟩⟩
  ihave H := (put_together c b half halves_apart halves_cover ![f0, f1]) $$ [H0 H1]
  · rw [bigSep_two]
    isplitl [H0]; · iexact H0
    iexact H1
  icases H with ⟨%g, %hg, H⟩
  iexists (b.view.read (Elt F) g)
  isplitr
  · ipureintro
    exact ⟨fun i => (congrFun (hg 0) i).trans (congrFun h0 i), fun i => (congrFun (hg 1) i).trans (congrFun h1 i)⟩
  iexists g
  isplitr; · ipureintro; rfl
  iexact H

end Cert.KernelIdeal.Exchange
-- ==== Proof.IdealLaunch.lean ====
/-
# Sharing out the exchange at launch

The semaphores of all the devices become the cells of the schedule, every device is handed its positions, the tokens of
the duties it performs (its own transfers' departures, the arrivals at the devices it sends to, the ready signals it
gives), and the credit for what the other devices will pay it.
-/
module

public import proofs.«01_k».proof.Proof.IdealBuffers

@[expose] public section

set_option maxRecDepth 16384

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Cells and tokens -/

theorem cell_injective : Function.Injective (cell : Dev nD × Part → GSem nD τ sig) := fun a b h =>
  Prod.ext (congrArg (fun g : GSem nD τ sig => g.1.1) h) (semOf_injective (congrArg Prod.snd h))

/-- Every semaphore of the exchange. -/
def allCells : Finset (GSem nD τ sig) := Finset.univ.map ⟨cell, cell_injective⟩

/-- A duty of one device's semaphores: the three of the ready semaphore, one of each departure and each arrival. -/
abbrev Duty : Type := Option Bool × Fin 3
abbrev dutyPart : Duty → Part × Fin 3
  | (none, j) => (none, j) | (some b, j) => (some (b, j), 0)
theorem dutyPart_injective : Function.Injective dutyPart := by decide
abbrev tokenOf (cd : Dev nD × Duty) : GSem nD τ sig × ℕ × Fin 3 := (cell (cd.1, (dutyPart cd.2).1), 0, (dutyPart cd.2).2)
theorem tokenOf_injective : Function.Injective tokenOf := fun a b h => by
  have hc := cell_injective (congrArg Prod.fst h)
  have hd : (dutyPart a.2).2 = (dutyPart b.2).2 := congrArg (fun x : GSem nD τ sig × ℕ × Fin 3 => x.2.2) h
  exact Prod.ext (congrArg (fun x : Dev nD × Part => x.1) hc) (dutyPart_injective (Prod.ext (congrArg (fun x : Dev nD × Part => x.2) hc) hd))
def allTokens : Finset (GSem nD τ sig × ℕ × Fin 3) := Finset.univ.map ⟨tokenOf, tokenOf_injective⟩

omit [FloatOps F] in
theorem over_parts (Φ : Part → sProp 𝕄) :
    bigSep Finset.univ Φ = iprop(Φ none ∗ Φ (some (false, 0)) ∗ Φ (some (false, 1)) ∗ Φ (some (false, 2))
      ∗ Φ (some (true, 0)) ∗ Φ (some (true, 1)) ∗ Φ (some (true, 2))) :=
  bigSep_univ_eq_bigSepL parts (by decide) (by decide) Φ
omit [FloatOps F] in
theorem over_duties (Φ : Duty → sProp 𝕄) :
    bigSep Finset.univ Φ = iprop(Φ (none, 0) ∗ Φ (none, 1) ∗ Φ (none, 2) ∗ Φ (some false, 0) ∗ Φ (some false, 1) ∗ Φ (some false, 2)
      ∗ Φ (some true, 0) ∗ Φ (some true, 1) ∗ Φ (some true, 2)) :=
  bigSep_univ_eq_bigSepL [(none, 0), (none, 1), (none, 2), (some false, 0), (some false, 1), (some false, 2),
    (some true, 0), (some true, 1), (some true, 2)] (by decide) (by decide) Φ

/-- The tokens of the duties of device `c`'s own semaphores. -/
def minted (c : Dev nD) : sProp 𝕄 :=
  iprop(dutyTok EX (readyCell c) 0 0 ∗ dutyTok EX (readyCell c) 0 1 ∗ dutyTok EX (readyCell c) 0 2
    ∗ dutyTok EX (leftCell 0 c) 0 0 ∗ dutyTok EX (leftCell 1 c) 0 0 ∗ dutyTok EX (leftCell 2 c) 0 0
    ∗ dutyTok EX (cameCell 0 c) 0 0 ∗ dutyTok EX (cameCell 1 c) 0 0 ∗ dutyTok EX (cameCell 2 c) 0 0)

omit [FloatOps F] in
/-- Each device performs the duties of its departures, of the arrivals at the three devices it sends to, and of the
    ready signals of the three it receives from: the tokens of all devices, dealt accordingly. -/
theorem deal : (bigSep Finset.univ fun c : Dev nD => (minted c : sProp 𝕄)) ⊢ bigSep Finset.univ fun c : Dev nD => toks c := by
  unfold minted toks
  simp only [bigSep_sep']
  rw [bigSep_univ_equiv (shift 0).symm (fun c : Dev nD => (dutyTok EX (readyCell c) 0 0 : sProp 𝕄)),
    bigSep_univ_equiv (shift 1).symm (fun c : Dev nD => (dutyTok EX (readyCell c) 0 1 : sProp 𝕄)),
    bigSep_univ_equiv (shift 2).symm (fun c : Dev nD => (dutyTok EX (readyCell c) 0 2 : sProp 𝕄)),
    bigSep_univ_equiv (shift 0) (fun c : Dev nD => (dutyTok EX (cameCell 0 c) 0 0 : sProp 𝕄)),
    bigSep_univ_equiv (shift 1) (fun c : Dev nD => (dutyTok EX (cameCell 1 c) 0 0 : sProp 𝕄)),
    bigSep_univ_equiv (shift 2) (fun c : Dev nD => (dutyTok EX (cameCell 2 c) 0 0 : sProp 𝕄))]
  exact Entails.refl _

/-! ## The semaphores -/

/-- The kernel's own semaphores: two of its copies, three departures, three arrivals. -/
abbrev osem : Fin 8 → SemLoc sig
  | 0 => .dma ownS0 | 1 => .dma ownS1 | 2 => .dma (leftS 0) | 3 => .dma (leftS 1) | 4 => .dma (leftS 2)
  | 5 => .dma (cameS 0) | 6 => .dma (cameS 1) | 7 => .dma (cameS 2)
theorem ownSemFacts : Pipeline.OwnSemFacts cfg0.spec osem := by decide

abbrev ownSems (c : Dev nD) : sProp 𝕄 := Pipeline.ownSems0 (Ix := Unit) (Name := ℕ) (U := UU) (Lvl := ℕ) (Val := Elt F) (τ := τ) osem c

omit [FloatOps F] in
theorem ownSems_eq (c : Dev nD) : (ownSems c : sProp 𝕄)
    = iprop(semVal ((c : Thread nD τ), .dma ownS0) 0 ∗ semVal ((c : Thread nD τ), .dma ownS1) 0
        ∗ semVal (leftCell 0 c) 0 ∗ semVal (leftCell 1 c) 0 ∗ semVal (leftCell 2 c) 0
        ∗ semVal (cameCell 0 c) 0 ∗ semVal (cameCell 1 c) 0 ∗ semVal (cameCell 2 c) 0) := by
  unfold ownSems
  rw [Pipeline.ownSems0_eq_of_list c osem [0, 1, 2, 3, 4, 5, 6, 7] (by decide) (by decide)]; rfl
omit [FloatOps F] in
theorem unscoped_eq (c : Dev nD) : (unscopedSems0 c : sProp 𝕄) = semVal (readyCell c) 0 := by
  unfold unscopedSems0; rw [bigSep_eq_bigSepL_of_eq [SemLoc.reg readyS] (by decide) (by decide)]; rfl

omit [FloatOps F] in
/-- A device's semaphores are those of its copies and those of the exchange. -/
theorem sems_out (c : Dev nD) :
    iprop(ownSems c ∗ unscopedSems0 c) ⊢ (iprop(ownZero c ∗ bigSep Finset.univ fun p : Part => semVal (cell (c, p)) 0) : sProp 𝕄) := by
  rw [ownSems_eq, unscoped_eq, over_parts]
  unfold ownZero
  iintro ⟨⟨H0, H1, Hs⟩, HB⟩
  isplitl [H0 H1]; · isplitl [H0] <;> iassumption
  isplitl [HB]; · iexact HB
  iexact Hs
omit [FloatOps F] in
theorem sems_back (c : Dev nD) : iprop(ownZero c ∗ closed c) ⊢ (iprop(ownSems c ∗ unscopedSems0 c) : sProp 𝕄) := by
  rw [ownSems_eq, unscoped_eq]
  unfold ownZero closed
  iintro ⟨⟨H0, H1⟩, HB, Hs⟩
  isplitr [HB]
  · isplitl [H0]; · iexact H0
    isplitl [H1]; · iexact H1
    iexact Hs
  · iexact HB

/-! ## From the launch's resources to each device's -/

/-- What the launch deals device `c`: its cells, not yet opened, and their duties' tokens. -/
def G (c : Dev nD) : sProp 𝕄 :=
  iprop((bigSep Finset.univ fun p : Part => roundState EX (Rd m) (cell (c, p)) 0)
    ∗ (bigSep Finset.univ fun p : Part => iprop(atPos EX (cell (c, p)) 0 ∅ 0 ∗ reached EX (cell (c, p)) 0)) ∗ minted c)
/-- What it has of the exchange when its kernel starts. -/
def G' (c : Dev nD) : sProp 𝕄 := iprop(∃ K, records m K ∗ toks c ∗ places c ∗ ownZero c)

def u₀ : UU :=
  (initOf (Pipeline.cells cfgs cellOf_inj) (Pipeline.launchToks cfgs cellOf_inj), (initOf allCells allTokens, 1))

theorem fund_exchange : BI.own (EX (initOf allCells allTokens)) ⊢ (|==> bigSep Finset.univ (G m) : sProp 𝕄) := by
  have hC (Φ : GSem nD τ sig → sProp 𝕄) : bigSep allCells Φ = bigSep Finset.univ fun c : Dev nD => bigSep Finset.univ fun p : Part => Φ (cell (c, p)) := by
    unfold allCells; rw [bigSep_map, bigSep_univ_prod]; rfl
  have hT : bigSep allTokens (fun x => (dutyTok EX x.1 x.2.1 x.2.2 : sProp 𝕄)) = bigSep Finset.univ fun c : Dev nD => minted c := by
    unfold allTokens; rw [bigSep_map, bigSep_univ_prod]
    exact bigSep_congr fun c _ => by unfold minted; rw [over_duties]; rfl
  have hG : (bigSep Finset.univ (G m) : sProp 𝕄) = iprop(bigSep allCells (fun g => roundState EX (Rd m) g 0)
      ∗ (bigSep allCells (fun g => atPos EX g 0 ∅ 0) ∗ bigSep allCells fun g => reached EX g 0)
      ∗ bigSep allTokens fun x => dutyTok EX x.1 x.2.1 x.2.2) := by
    rw [hC, hC, hC, hT]; unfold G; simp only [bigSep_sep']
  rw [hG]
  iintro HX
  imod (Rounds.fund EX (Rd m) allCells allTokens) $$ HX with ⟨Hst, Hr, Hat, Htok⟩
  imodintro
  isplitl [Hst]; · iexact Hst
  isplitl [Hat Hr]; · isplitl [Hat] <;> iassumption
  iexact Htok

/-- Device `c` opens its cells. -/
theorem open_cells (c : Dev nD) :
    iprop(ownSems c ∗ unscopedSems0 c ∗ G m c)
      ⊢ |={Set.univ}=> iprop((bigSep Finset.univ fun p => iprop(∃ κ : ℕ, cellInv EX (Rd m) κ (cell (c, p))))
          ∗ (bigSep Finset.univ fun p => iprop(atPos EX (cell (c, p)) 0 ∅ 0 ∗ reached EX (cell (c, p)) 0)) ∗ minted c ∗ ownZero c) := by
  have hopen : iprop((bigSep Finset.univ fun p : Part => semVal (cell (c, p)) 0) ∗ bigSep Finset.univ fun p : Part => roundState EX (Rd m) (cell (c, p)) 0)
      ⊢ (|={Set.univ}=> bigSep Finset.univ fun p => iprop(∃ κ : ℕ, cellInv EX (Rd m) κ (cell (c, p))) : sProp 𝕄) := by
    rw [← bigSep_sep']
    exact (bigSep_mono fun p _ => (Rounds.body_intro EX (Rd m) (cell (c, p))).trans inv_alloc).trans (bigSep_fupd _ _)
  unfold G
  iintro ⟨Hos, Hus, Hst, Hat, Htok⟩
  ihave Hv := (sems_out (F := F) c) $$ [Hos Hus]
  · isplitl [Hos] <;> iassumption
  icases Hv with ⟨Hz, Hv⟩
  imod hopen $$ [Hv Hst] with Hinv
  · isplitl [Hv] <;> iassumption
  imodintro
  isplitl [Hinv]; · iexact Hinv
  isplitl [Hat]; · iexact Hat
  isplitl [Htok] <;> iassumption

omit [FloatOps F] in
theorem keep {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ := by
  iintro ⟨#HR, H⟩
  ihave HR' := (BI.bigSep_of_persistent S R) $$ HR
  iapply ((Entails.of_eq (bigSep_sep' S (fun _ => R) Φ).symm).trans (bigSep_mono fun i _ => h i))
  isplitl [HR'] <;> iassumption

/-- All devices' opened cells and tokens, shared out. -/
theorem share_out :
    (bigSep Finset.univ fun c : Dev nD => iprop((bigSep Finset.univ fun p => iprop(∃ κ : ℕ, cellInv EX (Rd m) κ (cell (c, p))))
          ∗ (bigSep Finset.univ fun p => iprop(atPos EX (cell (c, p)) 0 ∅ 0 ∗ reached EX (cell (c, p)) 0)) ∗ minted c ∗ ownZero c) : sProp 𝕄)
      ⊢ bigSep Finset.univ (G' m) := by
  simp only [bigSep_sep']
  rw [← bigSep_univ_prod (fun cp : Dev nD × Part => iprop(∃ κ : ℕ, cellInv EX (Rd m) κ (cell cp))),
    ← bigSep_univ_prod (fun cp : Dev nD × Part => (reached EX (cell cp) 0 : sProp 𝕄))]
  iintro ⟨HI, ⟨Hat, #HR⟩, Htok, Hz⟩
  ihave HK := (BI.bigSep_exists_pi Finset.univ (fun (cp : Dev nD × Part) (κ : ℕ) => (cellInv EX (Rd m) κ (cell cp) : sProp 𝕄))) $$ HI
  icases HK with ⟨%K, #HI⟩
  ihave Htk := (deal (F := F)) $$ Htok
  ihave Hmine := (show iprop((bigSep Finset.univ fun c : Dev nD => toks c) ∗ (bigSep Finset.univ fun c : Dev nD => bigSep Finset.univ fun p : Part => atPos EX (cell (c, p)) 0 ∅ 0)
      ∗ bigSep Finset.univ fun c : Dev nD => ownZero c) ⊢ (bigSep Finset.univ fun c : Dev nD => iprop(toks c ∗ places c ∗ ownZero c) : sProp 𝕄) from
    Entails.of_eq (by
      simp only [bigSep_sep']
      rw [bigSep_congr (s := Finset.univ) (fun (c : Dev nD) _ => show (bigSep Finset.univ fun p : Part => atPos EX (cell (c, p)) 0 ∅ 0 : sProp 𝕄) = places c from by
        rw [over_parts]; unfold places; rfl)])) $$ [Htk Hat Hz]
  · isplitl [Htk]; · iexact Htk
    isplitl [Hat] <;> iassumption
  iapply (keep (R := records m K) (Φ := fun c : Dev nD => iprop(toks c ∗ places c ∗ ownZero c)) (Ψ := G' m) fun c => by
    unfold G'; iintro ⟨H1, H2⟩; iexists K; isplitl [H1] <;> iassumption)
  isplitr
  · unfold records; isplitl; · iexact HI
    iexact HR
  · iexact Hmine

theorem glob : (bigSep Finset.univ fun c => iprop(ownSems c ∗ unscopedSems0 c ∗ G m c) : sProp 𝕄) ⊢ |={Set.univ}=> bigSep Finset.univ (G' m) :=
  ((bigSep_mono fun c _ => open_cells m c).trans (bigSep_fupd _ _)).trans (BI.fupd_mono (share_out m))

theorem start_up : (ownU u₀ : sProp 𝕄) ⊢ |={Set.univ}=> iprop(BI.own (EP (initOf (Pipeline.cells cfgs cellOf_inj) (Pipeline.launchToks cfgs cellOf_inj)))
    ∗ bigSep Finset.univ (G m)) := by
  unfold u₀
  iintro Hu
  ihave H := (ownU_pair _ _) $$ Hu
  icases H with ⟨HP, HX⟩
  ihave H2 := (show BI.own ((embR : Emb (UX × Counters) 𝕄) (initOf allCells allTokens, 1))
      ⊢ (iprop(BI.own (EX (initOf allCells allTokens)) ∗ BI.own (((Emb.inr : Emb Counters (UX × Counters)).trans embR) 1)) : sProp 𝕄) from
    own_pair_emb _ _ _) $$ HX
  icases H2 with ⟨HX, -⟩
  imod (fund_exchange m) $$ HX with HG
  imodintro
  isplitl [HP] <;> iassumption

/-! ## The launch's credit -/

omit [FloatOps F] in
/-- All devices together owe a semaphore of device `c` what the one sending to `c` owes it. -/
theorem paid (e : Dev nD ≃ Dev nD) (p : Part) (c : Dev nD) (n : ℕ) :
    ∑ d : Dev nD, (tallyAt (cell (e d, p)) () n : CellTallies nD τ sig Unit) (cell (c, p)) () = n := by
  rw [Equiv.sum_comp e fun d => (tallyAt (cell (d, p)) () n : CellTallies nD τ sig Unit) (cell (c, p)) (),
    Finset.sum_congr rfl fun d _ => show (tallyAt (cell (d, p)) () n : CellTallies nD τ sig Unit) (cell (c, p)) () = if d = c then n else 0 from by
      rw [tallyAt_apply]
      by_cases h : d = c
      · subst h; rw [if_pos ⟨rfl, rfl⟩, if_pos rfl]
      · rw [if_neg fun h' => h (congrArg Prod.fst (cell_injective h'.1)).symm, if_neg h],
    Finset.sum_ite_eq' Finset.univ c fun _ => n, if_pos (Finset.mem_univ _)]
omit [FloatOps F] in
theorem unpaid (e : Dev nD ≃ Dev nD) {p q : Part} (hpq : p ≠ q) (c : Dev nD) (n : ℕ) :
    ∑ d : Dev nD, (tallyAt (cell (e d, p)) () n : CellTallies nD τ sig Unit) (cell (c, q)) () = 0 :=
  Finset.sum_eq_zero fun d _ => by
    rw [tallyAt_apply, if_neg fun h' => hpq (congrArg Prod.snd (cell_injective h'.1)).symm]

omit [FloatOps F] in
/-- What all devices together owe one semaphore, duty by duty. -/
theorem owed_sum (g : GSem nD τ sig) :
    ∑ d : Dev nD, owed0 d g () = ((((∑ d : Dev nD, (tallyAt (cell (shift 1 d, some (true, 1))) () N : CellTallies nD τ sig Unit) g ())
      + (∑ d : Dev nD, (tallyAt (cell (shift 2 d, some (true, 2))) () N : CellTallies nD τ sig Unit) g ()))
      + (∑ d : Dev nD, (tallyAt (cell (shift 0 d, some (true, 0))) () N : CellTallies nD τ sig Unit) g ()))
      + (∑ d : Dev nD, (tallyAt (cell ((shift 0).symm d, none)) () 1 : CellTallies nD τ sig Unit) g ())
      + (∑ d : Dev nD, (tallyAt (cell ((shift 1).symm d, none)) () 1 : CellTallies nD τ sig Unit) g ()))
      + (∑ d : Dev nD, (tallyAt (cell ((shift 2).symm d, none)) () 1 : CellTallies nD τ sig Unit) g ()) := by
  simp only [← Finset.sum_add_distrib]
  exact Finset.sum_congr rfl fun d _ => rfl

omit [FloatOps F] in
theorem credit_at (c : Dev nD) (p : Part) (n : ℕ) (h : ∑ d : Dev nD, owed0 d (cell (c, p)) () = n) :
    tallyOn (cell (c, p)) (launchCredit (Pipeline.owing owed0) 0 (cell (c, p))) = (tallyAt (cell (c, p)) () n : CellTallies nD τ sig Unit) := by
  unfold tallyAt; refine congrArg _ (Finsupp.ext fun u => ?_); cases u
  rw [Pipeline.launchCredit_owing, Finsupp.single_eq_same, h]

omit [FloatOps F] in
theorem credit_ready (c : Dev nD) : tallyOn (readyCell c) (launchCredit (Pipeline.owing owed0) 0 (readyCell c)) = (tallyAt (readyCell c) () 3 : CellTallies nD τ sig Unit) :=
  credit_at c none 3 (by
    rw [owed_sum, unpaid _ (by decide), unpaid _ (by decide), unpaid _ (by decide), paid, paid, paid])
omit [FloatOps F] in
theorem credit_came (j : Fin 3) (c : Dev nD) :
    tallyOn (cameCell j c) (launchCredit (Pipeline.owing owed0) 0 (cameCell j c)) = (tallyAt (cameCell j c) () N : CellTallies nD τ sig Unit) :=
  credit_at c (some (true, j)) N (by
    rw [owed_sum, unpaid (p := none) _ (by simp), unpaid (p := none) _ (by simp), unpaid (p := none) _ (by simp)]
    have h (i : Fin 3) : ∑ d : Dev nD, (tallyAt (cell (shift i d, some (true, i))) () N : CellTallies nD τ sig Unit) (cell (c, some (true, j))) () = if i = j then N else 0 := by
      by_cases hi : i = j
      · subst hi; rw [paid, if_pos rfl]
      · rw [unpaid _ (by simpa using hi), if_neg hi]
    rw [h, h, h]
    fin_cases j <;> simp)

omit [FloatOps F] in
/-- Device `c`'s credit at launch: three ready signals and one slot from each of three devices. -/
theorem credits_intro (c : Dev nD) : (Pipeline.launchCred owed0 c : sProp 𝕄) ⊢ credits c := by
  unfold Pipeline.launchCred credits
  rw [bigSep_univ_at _ (SemLoc.reg readyS), credit_ready]
  refine sep_mono_right ?_
  rw [← credit_came 0, ← credit_came 1, ← credit_came 2]
  have hsub : (Finset.univ.map ⟨fun j : Fin 3 => (SemLoc.dma (cameS j) : SemLoc sig), by decide⟩) ⊆ Finset.univ.erase (SemLoc.reg readyS) := by decide
  refine Laws.entails_trans (bigSep_subset hsub) ?_
  rw [bigSep_map, bigSep_three]
  exact Entails.refl _

end Cert.KernelIdeal.Exchange

end
-- ==== Proof.IdealRun.lean ====
/-
# The run

Every execution of the four devices' kernels terminates, leaves the arguments as they were and every semaphore at
zero, and leaves in each device's output block the two halves that the body computes.
-/
module

public import proofs.«01_k».proof.Proof.IdealLaunch
public import Idealize.ShloMosaic.Lib.Pipeline.CollectiveSegs

@[expose] public section

set_option maxRecDepth 16384

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat BodyObligation)

variable (m : (ℓ : Loc nD τ sig) → Buf (Elt F) ℓ) (ρ : Dev nD → PrngReg)

/-- What device `c` has when its kernel starts, next to its buffers in VMEM. -/
def start (c : Dev nD) : sProp 𝕄 :=
  iprop(G' m c ∗ levAts L lv ∗ credits c ∗ args m c ∗ anyOf c oH)
def before (c : Dev nD) : sProp 𝕄 := iprop(start m c ∗ scratch c)
def after (c : Dev nD) : sProp 𝕄 := iprop(closed c ∗ ownZero c ∗ args m c ∗ scratch c ∗ result m c)

def dats (_ : Fin 1) (c : Dev nD) : Dat τ (Elt F) Unit ℕ UU ℕ cfg0 c where
  A w := w.elim0
  after w _ := w.elim0
  Φ t := match t with | ⟨0, _⟩ => before m c | ⟨_ + 1, _⟩ => after m c
  q _ := fullShare
  owed t := match t with | ⟨0, _⟩ => owed0 c | ⟨_ + 1, _⟩ => 0

/-- The one grid point's obligation: the body's rule. -/
theorem body_obligation (c : Dev nD) : BodyObligation (dats (F := F) m 0 c) (defs₀ (F := F)) 𝒱₀ () Set.univ := fun t => by
  have h0 : t = t0_0 := fin_N0 t
  subst h0
  rw [Finset.univ_eq_empty (α := Fin cfg0.W), bigSep_empty, bigSep_empty]
  show iprop(before m c ∗ (dats m 0 c).owesAt () t0_0.castSucc ∗ emp) ⊢ run c _ (fun _ => iprop(after m c ∗ (dats m 0 c).owesAt () t0_0.succ ∗ emp))
  unfold before start G' Dat.owesAt Pipeline.owesWithin
  rw [show (dats m 0 c).owed t0_0.castSucc = owed0 c from rfl, show (dats m 0 c).owed t0_0.succ = 0 from rfl]
  iintro ⟨⟨⟨⟨%K, #HR, Ht, Hp, Hz⟩, #Hl, Hc, Ha, Ho⟩, Hs⟩, ⟨%W, -, HO⟩, -⟩
  ihave Ho2 := (split_halves (F := F) c oH) $$ Ho
  iapply (body_run m K c W _) $$ [Ht Hp Hz Hc Ha Ho2 Hs HO]
  · isplitr; · iexact HR
    isplitr; · iexact Hl
    isplitl [Ht]; · iexact Ht
    isplitl [Hp]; · iexact Hp
    isplitl [Hc]; · iexact Hc
    isplitl [Hz]; · iexact Hz
    isplitl [Ha]; · iexact Ha
    isplitl [Hs]; · iexact Hs
    isplitl [Ho2]; · iexact Ho2
    iexact HO
  iintro %W' ⟨H1, H2, H3, H4, H5, HO⟩
  isplitl [H1 H2 H3 H4 H5]
  · unfold after
    isplitl [H1]; · iexact H1
    isplitl [H2]; · iexact H2
    isplitl [H3]; · iexact H3
    isplitl [H4] <;> iassumption
  isplitl [HO]
  · iexists W'
    isplitr; · ipureintro; exact fun _ _ => Or.inl trivial
    iexact HO
  iempintro

/-! ## Into the kernel and out of it -/

theorem start_intro (c : Dev nD) :
    iprop(Pipeline.unscopedRestP Pipeline.Prefetch.none cfg0.spec c (fun b => m ((c : Thread nD τ).loc b)) ∗ levAts L lv
        ∗ Pipeline.launchCred owed0 c ∗ prngReg c (ρ c) ∗ G' m c)
      ⊢ |={Set.univ}=> iprop(start m c ∗ emp) := by
  rw [Pipeline.unscopedRestP_none, unscopedRest0_eq]
  unfold start args anyOf
  simp only [owns_whole]
  iintro ⟨⟨Hx, Hw, Ho⟩, Hlev, Hcr, -, HG⟩
  ihave Hc := (credits_intro (F := F) c) $$ Hcr
  imodintro
  isplitl
  · isplitl [HG]; · iexact HG
    isplitl [Hlev]; · iexact Hlev
    isplitl [Hc]; · iexact Hc
    isplitl [Hx Hw]; · isplitl [Hx] <;> iassumption
    iexists _; iexact Ho
  · iempintro

omit [FloatOps F] in
/-- The buffers in VMEM, as the launch gives them and takes them back. -/
theorem scratch_eq (c : Dev nD) :
    (Pipeline.scopedRest (Ix := Unit) (Name := ℕ) (U := UU) (Lvl := ℕ) (Val := Elt F) cfg0.spec c : sProp 𝕄)
      = iprop(anyOf c xV ∗ anyOf c wV ∗ anyOf c wB ∗ anyOf c rB ∗ anyOf c sB ∗ anyOf c oV) := by
  rw [scopedRest0_eq]; unfold anyOf; simp only [owns_whole]; rfl

theorem scratch_in (c : Dev nD) :
    (Pipeline.scopedRest (Ix := Unit) (Name := ℕ) (U := UU) (Lvl := ℕ) (Val := Elt F) cfg0.spec c : sProp 𝕄) ⊢ scratch c := by
  rw [scratch_eq]
  unfold scratch
  iintro ⟨H0, H1, H2, H3, H4, H5⟩
  ihave H3 := (split_slots (F := F) c rB) $$ H3
  ihave H4 := (split_slots (F := F) c sB) $$ H4
  ihave H5 := (split_halves (F := F) c oV) $$ H5
  isplitl [H0]; · iexact H0
  isplitl [H1]; · iexact H1
  isplitl [H2]; · iexact H2
  isplitl [H3]; · iexact H3
  isplitl [H4] <;> iassumption

theorem join_any (c : Dev nD) {sp : Space} (b : Memref sig .tc sp S512x2048 .bf16) :
    iprop(anyOf c (leftOf b) ∗ anyOf c (rightOf b)) ⊢ (anyOf (F := F) c b : sProp 𝕄) := by
  unfold anyOf
  iintro ⟨⟨%X, HX⟩, ⟨%Y, HY⟩⟩
  ihave H := (join_halves (F := F) c b X Y) $$ [HX HY]
  · isplitl [HX] <;> iassumption
  icases H with ⟨%Z, -, H⟩
  iexists Z; iexact H

theorem scratch_out (c : Dev nD) :
    (scratch c : sProp 𝕄) ⊢ Pipeline.scopedRest (Ix := Unit) (Name := ℕ) (U := UU) (Lvl := ℕ) (Val := Elt F) cfg0.spec c := by
  rw [scratch_eq]
  unfold scratch
  iintro ⟨H0, H1, H2, H3, H4, H5⟩
  ihave H3 := (join_slots (F := F) c rB) $$ H3
  ihave H4 := (join_slots (F := F) c sB) $$ H4
  ihave H5 := (join_any (F := F) c oV) $$ H5
  isplitl [H0]; · iexact H0
  isplitl [H1]; · iexact H1
  isplitl [H2]; · iexact H2
  isplitl [H3]; · iexact H3
  isplitl [H4] <;> iassumption

/-- The output block of device `c` once its kernel has run. -/
def Computed (c : Dev nD) (Z : S512x2048.Idx → Elt F .bf16) : Prop :=
  (∀ i, Z (leftHalf.emb i) = outL m c i) ∧ ∀ i, Z (rightHalf.emb i) = outR m c i

/-- What device `c` has at the end, next to what the launch takes back. -/
def finish (c : Dev nD) : sProp 𝕄 :=
  iprop(unscopedSems0 c ∗ args m c ∗ ∃ Z, ⌜Computed m c Z⌝ ∗ owns (c : Thread nD τ) oH fullShare Z)

theorem before_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl]
  unfold before
  iintro ⟨Hs, -, Hr⟩
  isplitl [Hs]; · iexact Hs
  iapply (scratch_in (F := F) c); iexact Hr

theorem after_exit (c : Dev nD) :
    (dats m 0 c).Φ (Fin.last cfg0.N) ⊢ iprop(finish m c ∗ Pipeline.ownSems0 osem c ∗ Pipeline.scopedRest cfg0.spec c) := by
  rw [show (dats m 0 c).Φ (Fin.last cfg0.N) = after m c from rfl]
  unfold after finish result
  iintro ⟨Hc, Hz, Ha, Hs, Hr⟩
  ihave Hsem := (sems_back (F := F) c) $$ [Hc Hz]
  · isplitl [Hz] <;> iassumption
  icases Hsem with ⟨Hown, Hun⟩
  ihave Hr := (join_halves c oH (outL m c) (outR m c)) $$ Hr
  isplitl [Hun Ha Hr]
  · isplitl [Hun]; · iexact Hun
    isplitl [Ha]; · iexact Ha
    iexact Hr
  isplitl [Hown]; · iexact Hown
  iapply (scratch_out (F := F) c); iexact Hs

theorem waits (c : Dev nD) : (levAts L lv : sProp 𝕄) ⊢ Pipeline.cellsWaits cfgs (dats m) () 0 c :=
  Pipeline.cellsWaits_intro cfgs (dats m) () 0 c fun w => w.elim0

omit [FloatOps F] in
/-- A buffer held whole is what the memory holds. -/
theorem read_held (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  icombine HSI H gives %h
  isplitr
  · ipureintro; exact Buf.eq_of_forall_mem_univ h
  · iexact HSI

/-- What is read off the memory at the end. -/
def Final (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1))
    ∧ Computed m c (s.mem ((c : Thread nD τ).loc main_v1))

theorem finish_read (c : Dev nD) (s' : Phys nD τ sig (Elt F)) :
    iprop(finish m c ∗ emp ∗ SI s') ⊢ |={Set.univ}=>
      iprop(⌜Final m c s'.mem ∧ ∀ sm : SemLoc sig, sm.isScoped .tc = false → s'.mem.sem ((c.tc : Thread nD τ), sm) = 0⌝ ∗ SI s') := by
  unfold finish args
  simp only [owns_whole]
  iintro ⟨⟨Hu, ⟨Hx, Hw⟩, ⟨%Z, %hZ, Ho⟩⟩, -, HSI⟩
  ihave H := (read_held _ _ s') $$ [Hx HSI]
  · isplitl [Hx] <;> iassumption
  icases H with ⟨%hx, HSI⟩
  ihave H := (read_held _ _ s') $$ [Hw HSI]
  · isplitl [Hw] <;> iassumption
  icases H with ⟨%hw, HSI⟩
  ihave H := (read_held _ _ s') $$ [Ho HSI]
  · isplitl [Ho] <;> iassumption
  icases H with ⟨%ho, HSI⟩
  imod (Pipeline.unscopedSems0_read (X := unscopedSems0 c) (c := c) fupd_intro s') $$ [Hu HSI] with ⟨%hs, HSI⟩
  · isplitl [Hu] <;> iassumption
  imodintro
  isplitr
  · ipureintro; exact ⟨⟨⟨hx, hw⟩, ho ▸ hZ⟩, hs⟩
  · iexact HSI

set_option maxRecDepth 8000 in
/-- From any memory with its semaphores at zero, every fair execution of the four kernels terminates; at the end each
    device's arguments are as they were, its output block is the computed one, and every semaphore is at zero. -/
theorem run_main : θ_run defs (onTc (τ := τ) (main (F := F))) (s₀ m ρ) (fun r => (∀ c, Final m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => w.elim0) (harr := fun w => w.elim0) (hstage := fun w => w.elim0) (hshare := fun _ w => w.elim0)
    (hdistinct := winFacts0.arr_inj)
    (O₀ := owed0) (howed₀ := fun _ => rfl) (howedN := fun _ => rfl)
    (L := L) (lv := lv) (hL := L_of_ne) (hwaits := waits m)
    (G := G m) (G' := G' m) (u₀ := u₀) (hu₀ := start_up m) (hglob := glob m)
    (hA := fun _ w => w.elim0) (hpf := fun _ k => k.elim0)
    (X := start m) (Y := finish m) (Z := fun _ => iprop(emp))
    (hX := start_intro m ρ) (hin := before_intro m) (hout := after_exit m)
    (QY := fun c s => Final m c s ∧ ∀ sm : SemLoc sig, sm.isScoped .tc = false → s.sem ((c.tc : Thread nD τ), sm) = 0)
    (hY := finish_read m)
    (hQ := fun _ h hs => ⟨fun c => (h c).2.2.1, sem_eq_zero hs fun c => (h c).2.2.2⟩)

end Cert.KernelIdeal.Exchange

end
-- ==== Proof.IdealBlock.lean ====
/-
# What one device's block of the output holds

Read at the ideal values: entry `(r, q)` of device `c`'s block is the positive part of the sum, over the four devices
`p`, of the product of row `512 c + r` of `p`'s columns of `x` with column `q` of rows `512 p …` of `w`.
-/
module

public import proofs.«01_k».proof.Proof.IdealRun
public import Idealize.ShloMosaic.Lib.MatmulPlain
public import Idealize.ShloMosaic.Lib.ValueIdx
public import Idealize.ShloMosaic.Lib.ValueLayout
public import Idealize.ShloMosaic.Lib.Pointwise.Reshape

@[expose] public section

set_option maxRecDepth 16384

noncomputable section

namespace Cert.KernelIdeal.Exchange

open Cert.KernelIdeal Cert.KernelIdeal.Gen
open Idealize.ShloMosaic hiding ix2
open Idealize.ShloMosaic.TcCoe
open Idealize.ShloMosaic.ValueIdx (ix2 truncf_apply addf_apply maximumf_apply)
open scoped BigOperators

variable (m : (ℓ : Loc nD τ sig) → Buf (Elt Ideal) ℓ) (c : Dev nD)

/-- Row `r` of block `p` of an array cut into four blocks of 512 rows. -/
abbrev rowOf (p : Dev nD) (r : Fin 512) : Fin 2048 :=
  ⟨512 * p.val + r.val, by have h : p.val < 4 := p.isLt; have := r.isLt; omega⟩

/-- An entry of device `p`'s `x`. -/
def xAt (p : Dev nD) (a : Fin 2048) (k : Fin 512) : EReal := xOf m p (ix2 a k)
/-- An entry of device `c`'s `w`. -/
def wAt (a q : Fin 2048) : EReal := wOf m c (ix2 a q)

/-- Device `p`'s share of entry `(r, q)` of device `c`'s block: the product over `p`'s columns of `x`. -/
def share (p : Dev nD) (r : Fin 512) (q : Fin 2048) : EReal :=
  ∑ k : Fin 512, xAt m p (rowOf c r) k * wAt m c (rowOf p k) q

/-- Entry `(r, q)` of device `c`'s block. -/
def blockEntry (r : Fin 512) (q : Fin 2048) : EReal := max (∑ p : Dev nD, share m c p r q) 0

/-! ## The operands -/

theorem rowsX_at (p : Dev nD) (r k : Fin 512) : (rowsX p).emb (ix2 r k) = ix2 (rowOf p r) k := by
  funext a; apply Fin.ext
  match a with
  | ⟨0, _⟩ => exact congrArg (512 * p.val + ·) (Nat.one_mul _)
  | ⟨1, _⟩ => exact (Nat.zero_add _).trans (Nat.one_mul _)
theorem rowsW_at (p : Dev nD) (k : Fin 512) (q : Fin 2048) : (rowsW p).emb (ix2 k q) = ix2 (rowOf p k) q := by
  funext a; apply Fin.ext
  match a with
  | ⟨0, _⟩ => exact congrArg (512 * p.val + ·) (Nat.one_mul _)
  | ⟨1, _⟩ => exact (Nat.zero_add _).trans (Nat.one_mul _)
theorem allW_at (i : S2048x2048.Idx) : allW.emb i = i := by
  funext a; apply Fin.ext
  match a with
  | ⟨0, _⟩ => exact (Nat.zero_add _).trans (Nat.one_mul _)
  | ⟨1, _⟩ => exact (Nat.zero_add _).trans (Nat.one_mul _)

/-- What device `p` cuts for device `c` is its columns of `c`'s rows of `x`. -/
theorem cut_at (p : Dev nD) (r k : Fin 512) : (cut m p c (ix2 r k) : EReal) = xAt m p (rowOf c r) k :=
  congrArg (xOf m p) (rowsX_at c r k)
theorem wRows_at (p : Dev nD) (k : Fin 512) (q : Fin 2048) : (wRows m c p (ix2 k q) : EReal) = wAt m c (rowOf p k) q := by
  unfold wRows wNarrow k0_pay5
  rw [shapeCast_id, truncf_apply, rowsW_at, allW_at]
  rfl
/-- A block that came, taken out of its slot, is what was cut for this device. -/
theorem came_out (j : Fin 3) : shapeCast S512x512 (came m c j) shapeCasts_S1x512x512_S512x512 = cut m (orig j c) c := by
  rw [shapeCast_comp, shapeCast_id]

/-- What device `p` cut for `c`, times the rows of `w` it meets, is `p`'s share. -/
theorem share_eq (p : Dev nD) (r : Fin 512) (q : Fin 2048) :
    share m c p r q = ∑ k : Fin 512, (cut m p c (ix2 r k) : EReal) * (wRows m c p (ix2 k q) : EReal) :=
  Finset.sum_congr rfl fun k _ => by rw [cut_at, wRows_at]

/-! ## The accumulated products -/

theorem zero_at {s : Shape} (i : s.Idx) : constant (F := Ideal) s .f32 0x00000000#32 i = (0 : EReal) := Ideal.ofBits_zero_f32

/-- The product of the whole width. -/
theorem product_at (A : FVec Ideal S512x512 .bf16) (B : FVec Ideal S512x2048 .bf16) (r : Fin 512) (q : Fin 2048) :
    matmul dot_S512x512_S512x2048_S512x2048_1_0_0_1_n_n none A B (constant S512x2048 .f32 0x00000000#32) (ix2 r q)
      = ∑ k : Fin 512, (A (ix2 r k) : EReal) * (B (ix2 k q) : EReal) :=
  (Ideal.matmul_plain_apply none A B _ r q).trans (by rw [zero_at, zero_add])
/-- The product of half the width. -/
theorem half_product_at (A : FVec Ideal S512x512 .bf16) (B : FVec Ideal S512x1024 .bf16) (r : Fin 512) (q : Fin 1024) :
    matmul dot_S512x512_S512x1024_S512x1024_1_0_0_1_n_n none A B (constant S512x1024 .f32 0x00000000#32) (ix2 r q)
      = ∑ k : Fin 512, (A (ix2 r k) : EReal) * (B (ix2 k q) : EReal) :=
  (Ideal.matmul_plain_apply none A B _ r q).trans (by rw [zero_at, zero_add])

theorem acc2_at (r : Fin 512) (q : Fin 2048) :
    (acc2 m c (ix2 r q) : EReal) = share m c c r q + share m c (orig 0 c) r q := by
  unfold acc2 k0_pay7
  rw [addf_apply, product_at, product_at, came_out, share_eq, share_eq]
theorem acc3_at (r : Fin 512) (q : Fin 2048) :
    (acc3 m c (ix2 r q) : EReal) = share m c c r q + share m c (orig 0 c) r q + share m c (orig 2 c) r q := by
  unfold acc3 k0_pay8
  rw [addf_apply, product_at, came_out, acc2_at, share_eq m c (orig 2 c)]

/-- The four devices are this one and the three it receives from. -/
theorem sum_devices (f : Dev nD → EReal) : ∑ p : Dev nD, f p = f c + f (orig 0 c) + f (orig 2 c) + f (orig 1 c) := by
  have h : (Finset.univ : Finset (Dev nD)) = {c, orig 0 c, orig 2 c, orig 1 c} := by revert c; decide
  have h1 : c ∉ ({orig 0 c, orig 2 c, orig 1 c} : Finset (Dev nD)) := by revert c; decide
  have h2 : orig 0 c ∉ ({orig 2 c, orig 1 c} : Finset (Dev nD)) := by revert c; decide
  have h3 : orig 2 c ∉ ({orig 1 c} : Finset (Dev nD)) := by revert c; decide
  rw [h, Finset.sum_insert h1, Finset.sum_insert h2, Finset.sum_insert h3, Finset.sum_singleton, add_assoc, add_assoc]

/-! ## The two halves -/

abbrev leftCol (q : Fin 1024) : Fin 2048 := ⟨q.val, by have := q.isLt; omega⟩
abbrev rightCol (q : Fin 1024) : Fin 2048 := ⟨1024 + q.val, by have := q.isLt; omega⟩

theorem left_at {α : Type} {R : ℕ} (hR : (⟨2, ![R, 2048]⟩ : Shape).Slices ![0, 0] ⟨2, ![R, 1024]⟩) (x : (⟨2, ![R, 2048]⟩ : Shape).Idx → α) (r : Fin R) (q : Fin 1024) :
    extractStridedSlice ⟨2, ![R, 1024]⟩ ![0, 0] x hR (ix2 r q) = x (ix2 r (leftCol q)) := by
  refine congrArg x (funext fun a => Fin.ext ?_)
  match a with
  | ⟨0, _⟩ => exact Nat.zero_add _
  | ⟨1, _⟩ => exact Nat.zero_add _
theorem right_at {α : Type} {R : ℕ} (hR : (⟨2, ![R, 2048]⟩ : Shape).Slices ![0, 1024] ⟨2, ![R, 1024]⟩) (x : (⟨2, ![R, 2048]⟩ : Shape).Idx → α) (r : Fin R) (q : Fin 1024) :
    extractStridedSlice ⟨2, ![R, 1024]⟩ ![0, 1024] x hR (ix2 r q) = x (ix2 r (rightCol q)) := by
  refine congrArg x (funext fun a => Fin.ext ?_)
  match a with
  | ⟨0, _⟩ => exact Nat.zero_add _
  | ⟨1, _⟩ => rfl

theorem positive_part (x : FVec Ideal S512x1024 .f32) (i : S512x1024.Idx) :
    (maximumf x (broadcast S512x1024 (Scalar.ofBits .f32 0x00000000#32 : Ideal .f32)) i : EReal) = max (x i) 0 := by
  rw [maximumf_apply]
  exact congrArg (max (x i : EReal)) Ideal.ofBits_zero_f32

theorem outL_at (r : Fin 512) (q : Fin 1024) : (outL m c (ix2 r q) : EReal) = blockEntry m c r (leftCol q) := by
  unfold outL k0_pay9
  rw [shapeCast_id, truncf_apply, positive_part, addf_apply, half_product_at, came_out, left_at, acc3_at,
    blockEntry, sum_devices c, share_eq m c (orig 1 c)]
  simp only [left_at]
theorem outR_at (r : Fin 512) (q : Fin 1024) : (outR m c (ix2 r q) : EReal) = blockEntry m c r (rightCol q) := by
  unfold outR k0_pay11 k0_pay10
  rw [shapeCast_id, truncf_apply, positive_part, addf_apply, half_product_at, came_out, right_at, acc3_at,
    blockEntry, sum_devices c, share_eq m c (orig 1 c)]
  simp only [right_at]

theorem leftHalf_at (r : Fin 512) (q : Fin 1024) : leftHalf.emb (ix2 r q) = ix2 r (leftCol q) := by
  funext a; apply Fin.ext
  match a with
  | ⟨0, _⟩ => exact (Nat.zero_add _).trans (Nat.one_mul _)
  | ⟨1, _⟩ => exact (Nat.zero_add _).trans (Nat.one_mul _)
theorem rightHalf_at (r : Fin 512) (q : Fin 1024) : rightHalf.emb (ix2 r q) = ix2 r (rightCol q) := by
  funext a; apply Fin.ext
  match a with
  | ⟨0, _⟩ => exact (Nat.zero_add _).trans (Nat.one_mul _)
  | ⟨1, _⟩ => exact congrArg (1024 + ·) (Nat.one_mul _)

/-- The computed block, entry by entry. -/
theorem Computed.at {Z : S512x2048.Idx → Elt Ideal .bf16} (h : Computed m c Z) (r : Fin 512) (q : Fin 2048) :
    (Z (ix2 r q) : EReal) = blockEntry m c r q := by
  by_cases hq : q.val < 1024
  · have := h.1 (ix2 r ⟨q.val, hq⟩)
    rw [leftHalf_at, outL_at] at this
    exact this
  · have e : rightCol ⟨q.val - 1024, by have := q.isLt; omega⟩ = q := Fin.ext (by show 1024 + (q.val - 1024) = q.val; omega)
    have := h.2 (ix2 r ⟨q.val - 1024, by have := q.isLt; omega⟩)
    rw [rightHalf_at, outR_at, e] at this
    exact this

end Cert.KernelIdeal.Exchange

end
-- ==== Proof.ReferenceEntry.lean ====
/-
# What the reference computes

Read at the ideal values: entry `(a, q)` of its result is the positive part of the product of row `a` of `x` with
column `q` of `w`.
-/
module

public import proofs.«01_k».proof.Proof.Gen.ReferenceIdeal.Run
public import Idealize.ShloMosaic.Lib.StackMember
public import Idealize.ShloMosaic.Lib.ValueIdx

@[expose] public section

noncomputable section

namespace Cert.ReferenceIdeal.Value

open Cert.ReferenceIdeal Cert.ReferenceIdeal.Gen
open Idealize.ShloMosaic Idealize.ShloMosaic.TcCoe Idealize.ShloMosaic.ValueIdx Idealize.ShloMosaic.StackMember
open scoped BigOperators

/-- The reference's result, of its two arguments. -/
def result (X W : FVec Ideal S2048x2048 .f32) : FVec Ideal S2048x2048 .bf16 :=
  truncf .bf16 (maximumf (Host.dotGeneral dot_S2048x2048_S2048x2048_S2048x2048_1_0_0_1_n_n none X W)
    (broadcastInDim S2048x2048 ![] bcast_S_S2048x2048 (constant S_ .f32 0x00000000#32))) bitsLt_bf16_f32

theorem result_at (X W : FVec Ideal S2048x2048 .f32) (a q : Fin 2048) :
    (result X W (ix2 a q) : EReal) = max (∑ k : Fin 2048, (X (ix2 a k) : EReal) * (W (ix2 k q) : EReal)) 0 := by
  unfold result
  rw [truncf_apply, maximumf_apply]
  exact congrArg₂ max (dotGeneral_plain_apply none X W a q) Ideal.ofBits_zero_f32

end Cert.ReferenceIdeal.Value

end
-- ==== Proof.BlockEquation.lean ====
/-
# A device's block is its block of the reference's result

The 2048 terms of the reference's sum fall into four runs of 512, and run `p` is device `p`'s share.
-/
module

public import proofs.«01_k».proof.Proof.IdealBlock
public import proofs.«01_k».proof.Proof.ReferenceEntry
public import Idealize.ShloMosaic.Lib.Layout

@[expose] public section

set_option maxRecDepth 16384

noncomputable section

namespace Cert.KernelIdeal.Exchange

open Cert.KernelIdeal Cert.KernelIdeal.Gen
open Idealize.ShloMosaic hiding ix2 eq_ix2
open Idealize.ShloMosaic.TcCoe
open Idealize.ShloMosaic.ValueIdx (ix2 eq_ix2)
open scoped BigOperators

variable (m : (ℓ : Loc nD τ sig) → Buf (Elt Ideal) ℓ) (c : Dev nD)

/-- A sum of 2048 terms, as four runs of 512. -/
theorem sum_runs (f : Fin 2048 → EReal) : ∑ k : Fin 2048, f k = ∑ p : Dev nD, ∑ k : Fin 512, f (rowOf p k) := by
  rw [← Fintype.sum_prod_type' (f := fun (p : Dev nD) (k : Fin 512) => f (rowOf p k))]
  exact (Fintype.sum_equiv (finProdFinEquiv (m := 4) (n := 512)) _ f fun i =>
    congrArg f (Fin.ext (Nat.add_comm _ _))).symm

/-- Column `k` of device `p`'s part of `x` is column `512 p + k` of `x`. -/
theorem column_at (p : Dev nD) (X : FVec Ideal ⟨2, ![2048, 2048]⟩ .f32) (a : Fin 2048) (k : Fin 512) :
    Layout.block ⟨2, ![2048, 512]⟩ ⟨2, ![2048, 2048]⟩ 1 4 p X (by decide) (ix2 a k) = X (ix2 a (rowOf p k)) := by
  refine congrArg X (funext fun i => Fin.ext ?_)
  match i with
  | ⟨0, _⟩ => rfl
  | ⟨1, _⟩ => exact congrArg (· + k.val) (Nat.mul_comm p.val 512)
/-- Row `r` of device `c`'s part of an array is row `512 c + r` of the array. -/
theorem row_at (Y : FVec Ideal ⟨2, ![2048, 2048]⟩ .bf16) (r : Fin 512) (q : Fin 2048) :
    Layout.block ⟨2, ![512, 2048]⟩ ⟨2, ![2048, 2048]⟩ 0 4 c Y (by decide) (ix2 r q) = Y (ix2 (rowOf c r) q) := by
  refine congrArg Y (funext fun i => Fin.ext ?_)
  match i with
  | ⟨0, _⟩ => exact congrArg (· + r.val) (Nat.mul_comm c.val 512)
  | ⟨1, _⟩ => rfl

/-- Where the devices hold their columns of `X`, and all of `W`, the computed block is the block of the reference's result. -/
theorem Computed.eq_block {Z : S512x2048.Idx → Elt Ideal .bf16} (h : Computed m c Z)
    (X W : FVec Ideal ⟨2, ![2048, 2048]⟩ .f32)
    (hx : ∀ p : Dev nD, xOf m p = Layout.block ⟨2, ![2048, 512]⟩ ⟨2, ![2048, 2048]⟩ 1 4 p X (by decide))
    (hw : wOf m c = W) :
    Z = Layout.block ⟨2, ![512, 2048]⟩ ⟨2, ![2048, 2048]⟩ 0 4 c (Cert.ReferenceIdeal.Value.result X W) (by decide) := by
  funext i
  obtain ⟨r, q, rfl⟩ : ∃ (r : Fin 512) (q : Fin 2048), i = ix2 r q := ⟨i 0, i 1, eq_ix2 i⟩
  rw [row_at]
  refine (Computed.at m c h r q).trans (Eq.trans ?_ (Cert.ReferenceIdeal.Value.result_at X W (rowOf c r) q).symm)
  rw [blockEntry, sum_runs]
  refine congrArg (max · (0 : EReal)) (Finset.sum_congr rfl fun p _ => Finset.sum_congr rfl fun k _ => ?_)
  have e1 : xAt m p (rowOf c r) k = X (ix2 (rowOf c r) (rowOf p k)) :=
    (congrFun (hx p) _).trans (column_at p X _ _)
  have e2 : wAt m c (rowOf p k) q = W (ix2 (rowOf p k) q) := congrFun hw _
  rw [e1, e2]

end Cert.KernelIdeal.Exchange

end
-- ==== Proof.lean ====
/-
# The claims

The kernel's run at the bits and at the ideal values, the reference's run, and the equation of their results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.IdealRun
public import proofs.«01_k».proof.Proof.BitsRun
public import proofs.«01_k».proof.Proof.BlockEquation
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel at the bits runs, leaves its arguments and every counter as it found them. -/
theorem kernel_quiescent : quiescent_Kernel (hKernel := Cert.Kernel.Gen.facts) := fun m g _ =>
  (θ_run _ _ _).mono (fun _ h => ⟨fun c => (h.1 c).1, h.2⟩) (Cert.Kernel.Exchange.run_main (F := Bits) m g)

/-- The same at the ideal values. -/
theorem ideal_quiescent : quiescent_KernelIdeal (hKernelIdeal := Cert.KernelIdeal.Gen.facts) := fun m g _ =>
  (θ_run _ _ _).mono (fun _ h => ⟨fun c => (h.1 c).1, h.2⟩) (Cert.KernelIdeal.Exchange.run_main (F := Ideal) m g)

/-- The reference runs and leaves its arguments; it has no counter. -/
theorem reference_quiescent : quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

/-- Every device ends with its block of the reference's result. -/
theorem blocks_agree : algebraic_KernelIdeal_ReferenceIdeal (hKernelIdeal := Cert.KernelIdeal.Gen.facts)
    (hReferenceIdeal := Cert.ReferenceIdeal.Gen.facts) := fun m g m' g' _ hin =>
  ⟨Cert.ReferenceIdeal.Value.result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun _ h c => ⟨Cert.KernelIdeal.Exchange.Computed.eq_block m c (h.1 c).2 _ _ (fun p => (hin p).1) (hin c).2, (h.1 c).1⟩)
      (Cert.KernelIdeal.Exchange.run_main (F := Ideal) m g),
    (θ_run _ _ _).mono (fun _ h => h 0) (Cert.ReferenceIdeal.Value.run (F := Ideal) m' g')⟩

/-- The four runs, and the equation of the values. -/
theorem claim : Cert.Claim := ⟨Cert.Kernel.Gen.facts, Cert.KernelIdeal.Gen.facts, Cert.ReferenceIdeal.Gen.facts,
  kernel_quiescent, ideal_quiescent, reference_quiescent, trivial, blocks_agree⟩

end Cert.Proof

end
